-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_regular [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v241_0)) (v1 : (c : Dev Cert.KernelIdeal.nD) → Buf (Elt Ideal) ((c.tc : Thread Cert.KernelIdeal.nD Cert.KernelIdeal.τ).loc Cert.KernelIdeal.main_v243)) (v2 : (c : Dev Cert.KernelIdeal.nD) → Buf (Elt Ideal) ((c.tc : Thread Cert.KernelIdeal.nD Cert.KernelIdeal.τ).loc Cert.KernelIdeal.main_v249)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v241_0) = v0 c
          ∧ r.2.mem ((c.tc : Thread Cert.KernelIdeal.nD Cert.KernelIdeal.τ).loc Cert.KernelIdeal.main_v243) = v1 c
          ∧ r.2.mem ((c.tc : Thread Cert.KernelIdeal.nD Cert.KernelIdeal.τ).loc Cert.KernelIdeal.main_v249) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v212) = v0 c
          ∧ r.2.mem ((c.tc : Thread Cert.ReferenceIdeal.nD Cert.ReferenceIdeal.τ).loc Cert.ReferenceIdeal.main_v213) = v1 c
          ∧ r.2.mem ((c.tc : Thread Cert.ReferenceIdeal.nD Cert.ReferenceIdeal.τ).loc Cert.ReferenceIdeal.main_v214) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_regular : Cert.Pre_regular.Facts),
    quiescent_Kernel (hKernel := hKernel)
    ∧ quiescent_KernelIdeal (hKernelIdeal := hKernelIdeal)
    ∧ quiescent_KernelIdeal_pre_regular (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ preserves_Kernel_KernelIdeal
    ∧ algebraic_KernelIdeal_ReferenceIdeal_pre_regular (hKernelIdeal := hKernelIdeal) (hReferenceIdeal := hReferenceIdeal) (hPre_regular := hPre_regular)
-- ==== Pre_regular.lean ====
abbrev S8x2x512x512 : Shape := ⟨4, ![8, 2, 512, 512]⟩
abbrev S4x2x4x4 : Shape := ⟨4, ![4, 2, 4, 4]⟩
abbrev S4 : Shape := ⟨1, ![4]⟩
abbrev S4x4x3x3 : Shape := ⟨4, ![4, 4, 3, 3]⟩
abbrev S1024x256 : Shape := ⟨2, ![1024, 256]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel
  bcast_S_S8x2x512x512 : S_.BroadcastsInDim S8x2x512x512 (![] : Fin 0 → Fin S8x2x512x512.rank)
  reducesTo_S8x2x512x512_S_d0_1_2_3 : S8x2x512x512.ReducesTo [0, 1, 2, 3] S_
  bcast_S_S4x2x4x4 : S_.BroadcastsInDim S4x2x4x4 (![] : Fin 0 → Fin S4x2x4x4.rank)
  reducesTo_S4x2x4x4_S_d0_1_2_3 : S4x2x4x4.ReducesTo [0, 1, 2, 3] S_
  bcast_S_S4x4x3x3 : S_.BroadcastsInDim S4x4x3x3 (![] : Fin 0 → Fin S4x4x3x3.rank)
  reducesTo_S4x4x3x3_S_d0_1_2_3 : S4x4x3x3.ReducesTo [0, 1, 2, 3] S_
  bcast_S_S1024x256 : S_.BroadcastsInDim S1024x256 (![] : Fin 0 → Fin S1024x256.rank)
  reducesTo_S1024x256_S_d0_1 : S1024x256.ReducesTo [0, 1] S_

variable [Facts]

def fn_part4 {F : FTy → Type} [FloatOps F] (main_v65 : IVec S_ 1) (main_v66 : FVec F S1024x256 .f32) (main_cst_26 : FVec F S_ .f32) : IVec S_ 1 :=
  let main_v67 : FVec F S1024x256 .f32 := broadcastInDim S1024x256 ![] bcast_S_S1024x256 main_cst_26
  let main_v68 : IVec S1024x256 1 := cmpf .olt main_v66 main_v67
  let main_c_27 : IVec S_ 1 := constantI S_ 1 1#1
  let main_v69 : IVec S_ 1 := (fun x v => Host.reduce IntOp.andi x v reducesTo_S1024x256_S_d0_1 h_S_) main_v68 main_c_27
  let main_v70 : IVec S_ 1 := andi main_v65 main_v69
  main_v70

def fn_part3 {F : FTy → Type} [FloatOps F] (main_arg9 : FVec F S4 .f32) (main_arg10 : FVec F S4 .f32) (main_arg11 : FVec F S4 .f32) (main_arg13 : FVec F S1024x256 .f32) (main_v45 : IVec S_ 1) (main_v49 : IVec S_ 1) : IVec S_ 1 :=
  let main_v50 : IVec S_ 1 := andi main_v45 main_v49
  let main_v51 : FVec F S4 .f32 := Host.absf main_arg9
  let main_cst_20 : FVec F S_ .f32 := constant S_ .f32 0x7F800000#32
  let main_v52 : FVec F S4 .f32 := broadcastInDim S4 ![] bcast_S_S4 main_cst_20
  let main_v53 : IVec S4 1 := cmpf .olt main_v51 main_v52
  let main_c_21 : IVec S_ 1 := constantI S_ 1 1#1
  let main_v54 : IVec S_ 1 := (fun x v => Host.reduce IntOp.andi x v reducesTo_S4_S_d0 h_S_) main_v53 main_c_21
  let main_v55 : IVec S_ 1 := andi main_v50 main_v54
  let main_v56 : FVec F S4 .f32 := Host.absf main_arg10
  let main_cst_22 : FVec F S_ .f32 := constant S_ .f32 0x7F800000#32
  let main_v57 : FVec F S4 .f32 := broadcastInDim S4 ![] bcast_S_S4 main_cst_22
  let main_v58 : IVec S4 1 := cmpf .olt main_v56 main_v57
  let main_c_23 : IVec S_ 1 := constantI S_ 1 1#1
  let main_v59 : IVec S_ 1 := (fun x v => Host.reduce IntOp.andi x v reducesTo_S4_S_d0 h_S_) main_v58 main_c_23
  let main_v60 : IVec S_ 1 := andi main_v55 main_v59
  let main_v61 : FVec F S4 .f32 := Host.absf main_arg11
  let main_cst_24 : FVec F S_ .f32 := constant S_ .f32 0x7F800000#32
  let main_v62 : FVec F S4 .f32 := broadcastInDim S4 ![] bcast_S_S4 main_cst_24
  let main_v63 : IVec S4 1 := cmpf .olt main_v61 main_v62
  let main_c_25 : IVec S_ 1 := constantI S_ 1 1#1
  let main_v64 : IVec S_ 1 := (fun x v => Host.reduce IntOp.andi x v reducesTo_S4_S_d0 h_S_) main_v63 main_c_25
  let main_v65 : IVec S_ 1 := andi main_v60 main_v64
  let main_v66 : FVec F S1024x256 .f32 := Host.absf main_arg13
  let main_cst_26 : FVec F S_ .f32 := constant S_ .f32 0x7F800000#32
  fn_part4 (F := F) main_v65 main_v66 main_cst_26

def fn_part2 {F : FTy → Type} [FloatOps F] (main_arg5 : FVec F S4 .f32) (main_arg7 : FVec F S4x4x3x3 .f32) (main_arg8 : FVec F S4 .f32) (main_arg9 : FVec F S4 .f32) (main_arg10 : FVec F S4 .f32) (main_arg11 : FVec F S4 .f32) (main_arg13 : FVec F S1024x256 .f32) (main_v30 : IVec S_ 1) (main_v31 : FVec F S4 .f32) (main_v32 : FVec F S4 .f32) : IVec S_ 1 :=
  let main_v33 : IVec S4 1 := cmpf .olt main_v31 main_v32
  let main_c_13 : IVec S_ 1 := constantI S_ 1 1#1
  let main_v34 : IVec S_ 1 := (fun x v => Host.reduce IntOp.andi x v reducesTo_S4_S_d0 h_S_) main_v33 main_c_13
  let main_v35 : IVec S_ 1 := andi main_v30 main_v34
  let main_v36 : FVec F S4 .f32 := Host.absf main_arg5
  let main_cst_14 : FVec F S_ .f32 := constant S_ .f32 0x7F800000#32
  let main_v37 : FVec F S4 .f32 := broadcastInDim S4 ![] bcast_S_S4 main_cst_14
  let main_v38 : IVec S4 1 := cmpf .olt main_v36 main_v37
  let main_c_15 : IVec S_ 1 := constantI S_ 1 1#1
  let main_v39 : IVec S_ 1 := (fun x v => Host.reduce IntOp.andi x v reducesTo_S4_S_d0 h_S_) main_v38 main_c_15
  let main_v40 : IVec S_ 1 := andi main_v35 main_v39
  let main_v41 : FVec F S4x4x3x3 .f32 := Host.absf main_arg7
  let main_cst_16 : FVec F S_ .f32 := constant S_ .f32 0x7F800000#32
  let main_v42 : FVec F S4x4x3x3 .f32 := broadcastInDim S4x4x3x3 ![] bcast_S_S4x4x3x3 main_cst_16
  let main_v43 : IVec S4x4x3x3 1 := cmpf .olt main_v41 main_v42
  let main_c_17 : IVec S_ 1 := constantI S_ 1 1#1
  let main_v44 : IVec S_ 1 := (fun x v => Host.reduce IntOp.andi x v reducesTo_S4x4x3x3_S_d0_1_2_3 h_S_) main_v43 main_c_17
  let main_v45 : IVec S_ 1 := andi main_v40 main_v44
  let main_v46 : FVec F S4 .f32 := Host.absf main_arg8
  let main_cst_18 : FVec F S_ .f32 := constant S_ .f32 0x7F800000#32
  let main_v47 : FVec F S4 .f32 := broadcastInDim S4 ![] bcast_S_S4 main_cst_18
  let main_v48 : IVec S4 1 := cmpf .olt main_v46 main_v47
  let main_c_19 : IVec S_ 1 := constantI S_ 1 1#1
  let main_v49 : IVec S_ 1 := (fun x v => Host.reduce IntOp.andi x v reducesTo_S4_S_d0 h_S_) main_v48 main_c_19
  fn_part3 (F := F) main_arg9 main_arg10 main_arg11 main_arg13 main_v45 main_v49

def fn_part1 {F : FTy → Type} [FloatOps F] (main_arg1 : FVec F S4x2x4x4 .f32) (main_arg2 : FVec F S4 .f32) (main_arg3 : FVec F S4 .f32) (main_arg4 : FVec F S4 .f32) (main_arg5 : FVec F S4 .f32) (main_arg7 : FVec F S4x4x3x3 .f32) (main_arg8 : FVec F S4 .f32) (main_arg9 : FVec F S4 .f32) (main_arg10 : FVec F S4 .f32) (main_arg11 : FVec F S4 .f32) (main_arg13 : FVec F S1024x256 .f32) (main_v15 : IVec S_ 1) : IVec S_ 1 :=
  let main_v16 : FVec F S4x2x4x4 .f32 := Host.absf main_arg1
  let main_cst_6 : FVec F S_ .f32 := constant S_ .f32 0x7F800000#32
  let main_v17 : FVec F S4x2x4x4 .f32 := broadcastInDim S4x2x4x4 ![] bcast_S_S4x2x4x4 main_cst_6
  let main_v18 : IVec S4x2x4x4 1 := cmpf .olt main_v16 main_v17
  let main_c_7 : IVec S_ 1 := constantI S_ 1 1#1
  let main_v19 : IVec S_ 1 := (fun x v => Host.reduce IntOp.andi x v reducesTo_S4x2x4x4_S_d0_1_2_3 h_S_) main_v18 main_c_7
  let main_v20 : IVec S_ 1 := andi main_v15 main_v19
  let main_v21 : FVec F S4 .f32 := Host.absf main_arg2
  let main_cst_8 : FVec F S_ .f32 := constant S_ .f32 0x7F800000#32
  let main_v22 : FVec F S4 .f32 := broadcastInDim S4 ![] bcast_S_S4 main_cst_8
  let main_v23 : IVec S4 1 := cmpf .olt main_v21 main_v22
  let main_c_9 : IVec S_ 1 := constantI S_ 1 1#1
  let main_v24 : IVec S_ 1 := (fun x v => Host.reduce IntOp.andi x v reducesTo_S4_S_d0 h_S_) main_v23 main_c_9
  let main_v25 : IVec S_ 1 := andi main_v20 main_v24
  let main_v26 : FVec F S4 .f32 := Host.absf main_arg3
  let main_cst_10 : FVec F S_ .f32 := constant S_ .f32 0x7F800000#32
  let main_v27 : FVec F S4 .f32 := broadcastInDim S4 ![] bcast_S_S4 main_cst_10
  let main_v28 : IVec S4 1 := cmpf .olt main_v26 main_v27
  let main_c_11 : IVec S_ 1 := constantI S_ 1 1#1
  let main_v29 : IVec S_ 1 := (fun x v => Host.reduce IntOp.andi x v reducesTo_S4_S_d0 h_S_) main_v28 main_c_11
  let main_v30 : IVec S_ 1 := andi main_v25 main_v29
  let main_v31 : FVec F S4 .f32 := Host.absf main_arg4
  let main_cst_12 : FVec F S_ .f32 := constant S_ .f32 0x7F800000#32
  let main_v32 : FVec F S4 .f32 := broadcastInDim S4 ![] bcast_S_S4 main_cst_12
  fn_part2 (F := F) main_arg5 main_arg7 main_arg8 main_arg9 main_arg10 main_arg11 main_arg13 main_v30 main_v31 main_v32

def fn {F : FTy → Type} [FloatOps F] (main_arg0 : FVec F S8x2x512x512 .f32) (main_arg1 : FVec F S4x2x4x4 .f32) (main_arg2 : FVec F S4 .f32) (main_arg3 : FVec F S4 .f32) (main_arg4 : FVec F S4 .f32) (main_arg5 : FVec F S4 .f32) (main_arg6 : FVec F S4 .f32) (main_arg7 : FVec F S4x4x3x3 .f32) (main_arg8 : FVec F S4 .f32) (main_arg9 : FVec F S4 .f32) (main_arg10 : FVec F S4 .f32) (main_arg11 : FVec F S4 .f32) (main_arg12 : FVec F S4 .f32) (main_arg13 : FVec F S1024x256 .f32) : IVec S_ 1 :=
  let main_cst : FVec F S_ .f32 := constant S_ .f32 0x3727C5AC#32
  let main_v0 : FVec F S4 .f32 := broadcastInDim S4 ![] bcast_S_S4 main_cst
  let main_v1 : FVec F S4 .f32 := addf main_arg6 main_v0
  let main_cst_0 : FVec F S_ .f32 := constant S_ .f32 0x00000000#32
  let main_v2 : FVec F S4 .f32 := broadcastInDim S4 ![] bcast_S_S4 main_cst_0
  let main_v3 : IVec S4 1 := cmpf .une main_v1 main_v2
  let main_c : IVec S_ 1 := constantI S_ 1 1#1
  let main_v4 : IVec S_ 1 := (fun x v => Host.reduce IntOp.andi x v reducesTo_S4_S_d0 h_S_) main_v3 main_c
  let main_cst_1 : FVec F S_ .f32 := constant S_ .f32 0x3727C5AC#32
  let main_v5 : FVec F S4 .f32 := broadcastInDim S4 ![] bcast_S_S4 main_cst_1
  let main_v6 : FVec F S4 .f32 := addf main_arg12 main_v5
  let main_cst_2 : FVec F S_ .f32 := constant S_ .f32 0x00000000#32
  let main_v7 : FVec F S4 .f32 := broadcastInDim S4 ![] bcast_S_S4 main_cst_2
  let main_v8 : IVec S4 1 := cmpf .une main_v6 main_v7
  let main_c_3 : IVec S_ 1 := constantI S_ 1 1#1
  let main_v9 : IVec S_ 1 := (fun x v => Host.reduce IntOp.andi x v reducesTo_S4_S_d0 h_S_) main_v8 main_c_3
  let main_v10 : IVec S_ 1 := andi main_v4 main_v9
  let main_v11 : FVec F S8x2x512x512 .f32 := Host.absf main_arg0
  let main_cst_4 : FVec F S_ .f32 := constant S_ .f32 0x7F800000#32
  let main_v12 : FVec F S8x2x512x512 .f32 := broadcastInDim S8x2x512x512 ![] bcast_S_S8x2x512x512 main_cst_4
  let main_v13 : IVec S8x2x512x512 1 := cmpf .olt main_v11 main_v12
  let main_c_5 : IVec S_ 1 := constantI S_ 1 1#1
  let main_v14 : IVec S_ 1 := (fun x v => Host.reduce IntOp.andi x v reducesTo_S8x2x512x512_S_d0_1_2_3 h_S_) main_v13 main_c_5
  let main_v15 : IVec S_ 1 := andi main_v10 main_v14
  fn_part1 (F := F) main_arg1 main_arg2 main_arg3 main_arg4 main_arg5 main_arg7 main_arg8 main_arg9 main_arg10 main_arg11 main_arg13 main_v15
-- ==== Kernel.lean ====
abbrev S8x2x512x512 : Shape := ⟨4, ![8, 2, 512, 512]⟩
abbrev S4x2x4x4 : Shape := ⟨4, ![4, 2, 4, 4]⟩
abbrev S4 : Shape := ⟨1, ![4]⟩
abbrev S4x4x3x3 : Shape := ⟨4, ![4, 4, 3, 3]⟩
abbrev S1024x256 : Shape := ⟨2, ![1024, 256]⟩
abbrev S_ : Shape := ⟨0, ![]⟩
abbrev S8x2x514x514 : Shape := ⟨4, ![8, 2, 514, 514]⟩
abbrev S8x1x256x256 : Shape := ⟨4, ![8, 1, 256, 256]⟩
abbrev S8x256x256 : Shape := ⟨3, ![8, 256, 256]⟩
abbrev S8x16x256x256 : Shape := ⟨4, ![8, 16, 256, 256]⟩
abbrev S8x32x256x256 : Shape := ⟨4, ![8, 32, 256, 256]⟩
abbrev S8x32x65536 : Shape := ⟨3, ![8, 32, 65536]⟩
abbrev S4x32 : Shape := ⟨2, ![4, 32]⟩
abbrev S4x1 : Shape := ⟨2, ![4, 1]⟩
abbrev S4x5 : Shape := ⟨2, ![4, 5]⟩
abbrev S8x4x65536 : Shape := ⟨3, ![8, 4, 65536]⟩
abbrev S1x32x8192 : Shape := ⟨3, ![1, 32, 8192]⟩
abbrev S1x4x8192 : Shape := ⟨3, ![1, 4, 8192]⟩
abbrev S32x8192 : Shape := ⟨2, ![32, 8192]⟩
abbrev S8192x4 : Shape := ⟨2, ![8192, 4]⟩
abbrev S4x8192 : Shape := ⟨2, ![4, 8192]⟩
abbrev S8x4x256x256 : Shape := ⟨4, ![8, 4, 256, 256]⟩
abbrev S8x4x258x258 : Shape := ⟨4, ![8, 4, 258, 258]⟩
abbrev S8x36x256x256 : Shape := ⟨4, ![8, 36, 256, 256]⟩
abbrev S8x36x65536 : Shape := ⟨3, ![8, 36, 65536]⟩
abbrev S4x36 : Shape := ⟨2, ![4, 36]⟩
abbrev S1x36x8192 : Shape := ⟨3, ![1, 36, 8192]⟩
abbrev S36x8192 : Shape := ⟨2, ![36, 8192]⟩
abbrev S8x1024x256 : Shape := ⟨3, ![8, 1024, 256]⟩
abbrev S256x1024 : Shape := ⟨2, ![256, 1024]⟩
abbrev S8x256x1024 : Shape := ⟨3, ![8, 256, 1024]⟩
abbrev S8x1x1024 : Shape := ⟨3, ![8, 1, 1024]⟩
abbrev S8x1x128 : Shape := ⟨3, ![8, 1, 128]⟩
abbrev S1x1024x256 : Shape := ⟨3, ![1, 1024, 256]⟩
abbrev S1x256x1024 : Shape := ⟨3, ![1, 256, 1024]⟩
abbrev S1x1x1024 : Shape := ⟨3, ![1, 1, 1024]⟩
abbrev S1x1x128 : Shape := ⟨3, ![1, 1, 128]⟩
abbrev S1024 : Shape := ⟨1, ![1024]⟩
abbrev S1024x1 : Shape := ⟨2, ![1024, 1]⟩
abbrev S1024x1024 : Shape := ⟨2, ![1024, 1024]⟩
abbrev S1x1024 : Shape := ⟨2, ![1, 1024]⟩
abbrev S1x1024x1 : Shape := ⟨3, ![1, 1024, 1]⟩
abbrev S1 : Shape := ⟨1, ![1]⟩
abbrev S1x1x1 : Shape := ⟨3, ![1, 1, 1]⟩
abbrev S8x1024 : Shape := ⟨2, ![8, 1024]⟩
abbrev S8x1024x1 : Shape := ⟨3, ![8, 1024, 1]⟩
abbrev S8x1x1 : Shape := ⟨3, ![8, 1, 1]⟩
abbrev S8 : Shape := ⟨1, ![8]⟩

abbrev nBuf : Space → Nat
  | .hbm => 273
  | .vmem => 24
  | .smem => 0
  | _ => 0

abbrev hbmTy0_0 (i : Nat) : BufTy := match i % 128 with
  | 0 => ⟨S8x2x512x512, .f32⟩
  | 1 => ⟨S4x2x4x4, .f32⟩
  | 2 => ⟨S4, .f32⟩
  | 3 => ⟨S4, .f32⟩
  | 4 => ⟨S4, .f32⟩
  | 5 => ⟨S4, .f32⟩
  | 6 => ⟨S4, .f32⟩
  | 7 => ⟨S4x4x3x3, .f32⟩
  | 8 => ⟨S4, .f32⟩
  | 9 => ⟨S4, .f32⟩
  | 10 => ⟨S4, .f32⟩
  | 11 => ⟨S4, .f32⟩
  | 12 => ⟨S4, .f32⟩
  | 13 => ⟨S1024x256, .f32⟩
  | 14 => ⟨S_, .i32⟩
  | 15 => ⟨S_, .f32⟩
  | 16 => ⟨S8x2x514x514, .f32⟩
  | 17 => ⟨S8x1x256x256, .f32⟩
  | 18 => ⟨S8x256x256, .f32⟩
  | 19 => ⟨S8x1x256x256, .f32⟩
  | 20 => ⟨S8x256x256, .f32⟩
  | 21 => ⟨S8x1x256x256, .f32⟩
  | 22 => ⟨S8x256x256, .f32⟩
  | 23 => ⟨S8x1x256x256, .f32⟩
  | 24 => ⟨S8x256x256, .f32⟩
  | 25 => ⟨S8x1x256x256, .f32⟩
  | 26 => ⟨S8x256x256, .f32⟩
  | 27 => ⟨S8x1x256x256, .f32⟩
  | 28 => ⟨S8x256x256, .f32⟩
  | 29 => ⟨S8x1x256x256, .f32⟩
  | 30 => ⟨S8x256x256, .f32⟩
  | 31 => ⟨S8x1x256x256, .f32⟩
  | 32 => ⟨S8x256x256, .f32⟩
  | 33 => ⟨S8x1x256x256, .f32⟩
  | 34 => ⟨S8x256x256, .f32⟩
  | 35 => ⟨S8x1x256x256, .f32⟩
  | 36 => ⟨S8x256x256, .f32⟩
  | 37 => ⟨S8x1x256x256, .f32⟩
  | 38 => ⟨S8x256x256, .f32⟩
  | 39 => ⟨S8x1x256x256, .f32⟩
  | 40 => ⟨S8x256x256, .f32⟩
  | 41 => ⟨S8x1x256x256, .f32⟩
  | 42 => ⟨S8x256x256, .f32⟩
  | 43 => ⟨S8x1x256x256, .f32⟩
  | 44 => ⟨S8x256x256, .f32⟩
  | 45 => ⟨S8x1x256x256, .f32⟩
  | 46 => ⟨S8x256x256, .f32⟩
  | 47 => ⟨S8x1x256x256, .f32⟩
  | 48 => ⟨S8x256x256, .f32⟩
  | 49 => ⟨S8x1x256x256, .f32⟩
  | 50 => ⟨S8x256x256, .f32⟩
  | 51 => ⟨S8x1x256x256, .f32⟩
  | 52 => ⟨S8x256x256, .f32⟩
  | 53 => ⟨S8x1x256x256, .f32⟩
  | 54 => ⟨S8x256x256, .f32⟩
  | 55 => ⟨S8x1x256x256, .f32⟩
  | 56 => ⟨S8x256x256, .f32⟩
  | 57 => ⟨S8x1x256x256, .f32⟩
  | 58 => ⟨S8x256x256, .f32⟩
  | 59 => ⟨S8x1x256x256, .f32⟩
  | 60 => ⟨S8x256x256, .f32⟩
  | 61 => ⟨S8x1x256x256, .f32⟩
  | 62 => ⟨S8x256x256, .f32⟩
  | 63 => ⟨S8x1x256x256, .f32⟩
  | 64 => ⟨S8x256x256, .f32⟩
  | 65 => ⟨S8x1x256x256, .f32⟩
  | 66 => ⟨S8x256x256, .f32⟩
  | 67 => ⟨S8x1x256x256, .f32⟩
  | 68 => ⟨S8x256x256, .f32⟩
  | 69 => ⟨S8x1x256x256, .f32⟩
  | 70 => ⟨S8x256x256, .f32⟩
  | 71 => ⟨S8x1x256x256, .f32⟩
  | 72 => ⟨S8x256x256, .f32⟩
  | 73 => ⟨S8x1x256x256, .f32⟩
  | 74 => ⟨S8x256x256, .f32⟩
  | 75 => ⟨S8x1x256x256, .f32⟩
  | 76 => ⟨S8x256x256, .f32⟩
  | 77 => ⟨S8x1x256x256, .f32⟩
  | 78 => ⟨S8x256x256, .f32⟩
  | 79 => ⟨S8x1x256x256, .f32⟩
  | 80 => ⟨S8x256x256, .f32⟩
  | 81 => ⟨S8x1x256x256, .f32⟩
  | 82 => ⟨S8x1x256x256, .f32⟩
  | 83 => ⟨S8x1x256x256, .f32⟩
  | 84 => ⟨S8x1x256x256, .f32⟩
  | 85 => ⟨S8x1x256x256, .f32⟩
  | 86 => ⟨S8x1x256x256, .f32⟩
  | 87 => ⟨S8x1x256x256, .f32⟩
  | 88 => ⟨S8x1x256x256, .f32⟩
  | 89 => ⟨S8x1x256x256, .f32⟩
  | 90 => ⟨S8x1x256x256, .f32⟩
  | 91 => ⟨S8x1x256x256, .f32⟩
  | 92 => ⟨S8x1x256x256, .f32⟩
  | 93 => ⟨S8x1x256x256, .f32⟩
  | 94 => ⟨S8x1x256x256, .f32⟩
  | 95 => ⟨S8x1x256x256, .f32⟩
  | 96 => ⟨S8x1x256x256, .f32⟩
  | 97 => ⟨S8x1x256x256, .f32⟩
  | 98 => ⟨S8x1x256x256, .f32⟩
  | 99 => ⟨S8x1x256x256, .f32⟩
  | 100 => ⟨S8x1x256x256, .f32⟩
  | 101 => ⟨S8x1x256x256, .f32⟩
  | 102 => ⟨S8x1x256x256, .f32⟩
  | 103 => ⟨S8x1x256x256, .f32⟩
  | 104 => ⟨S8x1x256x256, .f32⟩
  | 105 => ⟨S8x1x256x256, .f32⟩
  | 106 => ⟨S8x1x256x256, .f32⟩
  | 107 => ⟨S8x1x256x256, .f32⟩
  | 108 => ⟨S8x1x256x256, .f32⟩
  | 109 => ⟨S8x1x256x256, .f32⟩
  | 110 => ⟨S8x1x256x256, .f32⟩
  | 111 => ⟨S8x1x256x256, .f32⟩
  | 112 => ⟨S8x1x256x256, .f32⟩
  | 113 => ⟨S8x16x256x256, .f32⟩
  | 114 => ⟨S8x16x256x256, .f32⟩
  | 115 => ⟨S8x32x256x256, .f32⟩
  | 116 => ⟨S8x32x256x256, .bf16⟩
  | 117 => ⟨S8x32x65536, .bf16⟩
  | 118 => ⟨S4x32, .f32⟩
  | 119 => ⟨S4x32, .bf16⟩
  | 120 => ⟨S4x1, .f32⟩
  | 121 => ⟨S4x1, .f32⟩
  | 122 => ⟨S4x1, .f32⟩
  | 123 => ⟨S4x1, .f32⟩
  | 124 => ⟨S4x1, .f32⟩
  | 125 => ⟨S4x5, .f32⟩
  | 126 => ⟨S8x4x65536, .f32⟩
  | 127 => ⟨S8x4x256x256, .f32⟩
  | _ => ⟨S8x2x512x512, .f32⟩

abbrev hbmTy0_1 (i : Nat) : BufTy := match i % 128 with
  | 0 => ⟨S_, .i32⟩
  | 1 => ⟨S_, .f32⟩
  | 2 => ⟨S8x4x258x258, .f32⟩
  | 3 => ⟨S8x1x256x256, .f32⟩
  | 4 => ⟨S8x256x256, .f32⟩
  | 5 => ⟨S8x1x256x256, .f32⟩
  | 6 => ⟨S8x256x256, .f32⟩
  | 7 => ⟨S8x1x256x256, .f32⟩
  | 8 => ⟨S8x256x256, .f32⟩
  | 9 => ⟨S8x1x256x256, .f32⟩
  | 10 => ⟨S8x256x256, .f32⟩
  | 11 => ⟨S8x1x256x256, .f32⟩
  | 12 => ⟨S8x256x256, .f32⟩
  | 13 => ⟨S8x1x256x256, .f32⟩
  | 14 => ⟨S8x256x256, .f32⟩
  | 15 => ⟨S8x1x256x256, .f32⟩
  | 16 => ⟨S8x256x256, .f32⟩
  | 17 => ⟨S8x1x256x256, .f32⟩
  | 18 => ⟨S8x256x256, .f32⟩
  | 19 => ⟨S8x1x256x256, .f32⟩
  | 20 => ⟨S8x256x256, .f32⟩
  | 21 => ⟨S8x1x256x256, .f32⟩
  | 22 => ⟨S8x256x256, .f32⟩
  | 23 => ⟨S8x1x256x256, .f32⟩
  | 24 => ⟨S8x256x256, .f32⟩
  | 25 => ⟨S8x1x256x256, .f32⟩
  | 26 => ⟨S8x256x256, .f32⟩
  | 27 => ⟨S8x1x256x256, .f32⟩
  | 28 => ⟨S8x256x256, .f32⟩
  | 29 => ⟨S8x1x256x256, .f32⟩
  | 30 => ⟨S8x256x256, .f32⟩
  | 31 => ⟨S8x1x256x256, .f32⟩
  | 32 => ⟨S8x256x256, .f32⟩
  | 33 => ⟨S8x1x256x256, .f32⟩
  | 34 => ⟨S8x256x256, .f32⟩
  | 35 => ⟨S8x1x256x256, .f32⟩
  | 36 => ⟨S8x256x256, .f32⟩
  | 37 => ⟨S8x1x256x256, .f32⟩
  | 38 => ⟨S8x256x256, .f32⟩
  | 39 => ⟨S8x1x256x256, .f32⟩
  | 40 => ⟨S8x256x256, .f32⟩
  | 41 => ⟨S8x1x256x256, .f32⟩
  | 42 => ⟨S8x256x256, .f32⟩
  | 43 => ⟨S8x1x256x256, .f32⟩
  | 44 => ⟨S8x256x256, .f32⟩
  | 45 => ⟨S8x1x256x256, .f32⟩
  | 46 => ⟨S8x256x256, .f32⟩
  | 47 => ⟨S8x1x256x256, .f32⟩
  | 48 => ⟨S8x256x256, .f32⟩
  | 49 => ⟨S8x1x256x256, .f32⟩
  | 50 => ⟨S8x256x256, .f32⟩
  | 51 => ⟨S8x1x256x256, .f32⟩
  | 52 => ⟨S8x256x256, .f32⟩
  | 53 => ⟨S8x1x256x256, .f32⟩
  | 54 => ⟨S8x256x256, .f32⟩
  | 55 => ⟨S8x1x256x256, .f32⟩
  | 56 => ⟨S8x256x256, .f32⟩
  | 57 => ⟨S8x1x256x256, .f32⟩
  | 58 => ⟨S8x256x256, .f32⟩
  | 59 => ⟨S8x1x256x256, .f32⟩
  | 60 => ⟨S8x256x256, .f32⟩
  | 61 => ⟨S8x1x256x256, .f32⟩
  | 62 => ⟨S8x256x256, .f32⟩
  | 63 => ⟨S8x1x256x256, .f32⟩
  | 64 => ⟨S8x256x256, .f32⟩
  | 65 => ⟨S8x1x256x256, .f32⟩
  | 66 => ⟨S8x256x256, .f32⟩
  | 67 => ⟨S8x1x256x256, .f32⟩
  | 68 => ⟨S8x256x256, .f32⟩
  | 69 => ⟨S8x1x256x256, .f32⟩
  | 70 => ⟨S8x256x256, .f32⟩
  | 71 => ⟨S8x1x256x256, .f32⟩
  | 72 => ⟨S8x256x256, .f32⟩
  | 73 => ⟨S8x1x256x256, .f32⟩
  | 74 => ⟨S8x256x256, .f32⟩
  | 75 => ⟨S8x1x256x256, .f32⟩
  | 76 => ⟨S8x1x256x256, .f32⟩
  | 77 => ⟨S8x1x256x256, .f32⟩
  | 78 => ⟨S8x1x256x256, .f32⟩
  | 79 => ⟨S8x1x256x256, .f32⟩
  | 80 => ⟨S8x1x256x256, .f32⟩
  | 81 => ⟨S8x1x256x256, .f32⟩
  | 82 => ⟨S8x1x256x256, .f32⟩
  | 83 => ⟨S8x1x256x256, .f32⟩
  | 84 => ⟨S8x1x256x256, .f32⟩
  | 85 => ⟨S8x1x256x256, .f32⟩
  | 86 => ⟨S8x1x256x256, .f32⟩
  | 87 => ⟨S8x1x256x256, .f32⟩
  | 88 => ⟨S8x1x256x256, .f32⟩
  | 89 => ⟨S8x1x256x256, .f32⟩
  | 90 => ⟨S8x1x256x256, .f32⟩
  | 91 => ⟨S8x1x256x256, .f32⟩
  | 92 => ⟨S8x1x256x256, .f32⟩
  | 93 => ⟨S8x1x256x256, .f32⟩
  | 94 => ⟨S8x1x256x256, .f32⟩
  | 95 => ⟨S8x1x256x256, .f32⟩
  | 96 => ⟨S8x1x256x256, .f32⟩
  | 97 => ⟨S8x1x256x256, .f32⟩
  | 98 => ⟨S8x1x256x256, .f32⟩
  | 99 => ⟨S8x1x256x256, .f32⟩
  | 100 => ⟨S8x1x256x256, .f32⟩
  | 101 => ⟨S8x1x256x256, .f32⟩
  | 102 => ⟨S8x1x256x256, .f32⟩
  | 103 => ⟨S8x1x256x256, .f32⟩
  | 104 => ⟨S8x1x256x256, .f32⟩
  | 105 => ⟨S8x1x256x256, .f32⟩
  | 106 => ⟨S8x1x256x256, .f32⟩
  | 107 => ⟨S8x1x256x256, .f32⟩
  | 108 => ⟨S8x1x256x256, .f32⟩
  | 109 => ⟨S8x1x256x256, .f32⟩
  | 110 => ⟨S8x1x256x256, .f32⟩
  | 111 => ⟨S8x16x256x256, .f32⟩
  | 112 => ⟨S8x16x256x256, .f32⟩
  | 113 => ⟨S8x4x256x256, .f32⟩
  | 114 => ⟨S8x36x256x256, .f32⟩
  | 115 => ⟨S8x36x256x256, .bf16⟩
  | 116 => ⟨S8x36x65536, .bf16⟩
  | 117 => ⟨S4x36, .f32⟩
  | 118 => ⟨S4x36, .bf16⟩
  | 119 => ⟨S4x1, .f32⟩
  | 120 => ⟨S4x1, .f32⟩
  | 121 => ⟨S4x1, .f32⟩
  | 122 => ⟨S4x1, .f32⟩
  | 123 => ⟨S4x1, .f32⟩
  | 124 => ⟨S4x5, .f32⟩
  | 125 => ⟨S8x4x65536, .f32⟩
  | 126 => ⟨S8x4x65536, .f32⟩
  | 127 => ⟨S8x4x256x256, .f32⟩
  | _ => ⟨S8x2x512x512, .f32⟩

abbrev hbmTy0_2 (i : Nat) : BufTy := match i % 128 with
  | 0 => ⟨S8x4x256x256, .f32⟩
  | 1 => ⟨S8x1024x256, .f32⟩
  | 2 => ⟨S256x1024, .f32⟩
  | 3 => ⟨S8x256x1024, .f32⟩
  | 4 => ⟨S8x1x1024, .i32⟩
  | 5 => ⟨S8x1x128, .f32⟩
  | 6 => ⟨S8x1024, .i32⟩
  | 7 => ⟨S8x1024x1, .i32⟩
  | 8 => ⟨S8x1x1, .f32⟩
  | 9 => ⟨S8, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S1, .f32⟩
  | _ => ⟨S8x2x512x512, .f32⟩

abbrev hbmTy (i : Nat) : BufTy := match i / 128 with
  | 0 => hbmTy0_0 i
  | 1 => hbmTy0_1 i
  | 2 => hbmTy0_2 i
  | _ => ⟨S8x2x512x512, .f32⟩

abbrev bufTy : (tb : Table) → Fin (tcTables nBuf tb) → BufTy
  | .hbm, ⟨i, _⟩ => hbmTy i
  | .local _ .vmem, ⟨0, _⟩ => ⟨S1x32x8192, .bf16⟩
  | .local _ .vmem, ⟨1, _⟩ => ⟨S1x32x8192, .bf16⟩
  | .local _ .vmem, ⟨2, _⟩ => ⟨S4x32, .bf16⟩
  | .local _ .vmem, ⟨3, _⟩ => ⟨S4x5, .f32⟩
  | .local _ .vmem, ⟨4, _⟩ => ⟨S1x4x8192, .f32⟩
  | .local _ .vmem, ⟨5, _⟩ => ⟨S1x4x8192, .f32⟩
  | .local _ .vmem, ⟨6, _⟩ => ⟨S1x36x8192, .bf16⟩
  | .local _ .vmem, ⟨7, _⟩ => ⟨S1x36x8192, .bf16⟩
  | .local _ .vmem, ⟨8, _⟩ => ⟨S1x4x8192, .f32⟩
  | .local _ .vmem, ⟨9, _⟩ => ⟨S1x4x8192, .f32⟩
  | .local _ .vmem, ⟨10, _⟩ => ⟨S4x36, .bf16⟩
  | .local _ .vmem, ⟨11, _⟩ => ⟨S4x5, .f32⟩
  | .local _ .vmem, ⟨12, _⟩ => ⟨S1x4x8192, .f32⟩
  | .local _ .vmem, ⟨13, _⟩ => ⟨S1x4x8192, .f32⟩
  | .local _ .vmem, ⟨14, _⟩ => ⟨S1x1024x256, .f32⟩
  | .local _ .vmem, ⟨15, _⟩ => ⟨S1x1024x256, .f32⟩
  | .local _ .vmem, ⟨16, _⟩ => ⟨S1024x256, .f32⟩
  | .local _ .vmem, ⟨17, _⟩ => ⟨S256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x1x1024, .i32⟩
  | .local _ .vmem, ⟨21, _⟩ => ⟨S1x1x1024, .i32⟩
  | .local _ .vmem, ⟨22, _⟩ => ⟨S1x1x128, .f32⟩
  | .local _ .vmem, ⟨23, _⟩ => ⟨S1x1x128, .f32⟩
  | _, _ => ⟨S8x2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_c_0 : Ref sig .tc := ⟨.hbm, 128, rfl⟩
abbrev main_call1_v0 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_v202 : Ref sig .tc := ⟨.hbm, 220, rfl⟩
abbrev main_v203 : Ref sig .tc := ⟨.hbm, 221, rfl⟩
abbrev main_v204 : Ref sig .tc := ⟨.hbm, 222, rfl⟩
abbrev main_v205 : Ref sig .tc := ⟨.hbm, 223, rfl⟩
abbrev main_v206 : Ref sig .tc := ⟨.hbm, 224, rfl⟩
abbrev main_v207 : Ref sig .tc := ⟨.hbm, 225, rfl⟩
abbrev main_v208 : Ref sig .tc := ⟨.hbm, 226, rfl⟩
abbrev main_v209 : Ref sig .tc := ⟨.hbm, 227, rfl⟩
abbrev main_v210 : Ref sig .tc := ⟨.hbm, 228, rfl⟩
abbrev main_v211 : Ref sig .tc := ⟨.hbm, 229, rfl⟩
abbrev main_v212 : Ref sig .tc := ⟨.hbm, 230, rfl⟩
abbrev main_v213 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩
abbrev main_v221 : Ref sig .tc := ⟨.hbm, 239, rfl⟩
abbrev main_v222 : Ref sig .tc := ⟨.hbm, 240, rfl⟩
abbrev main_v223 : Ref sig .tc := ⟨.hbm, 241, rfl⟩
abbrev main_v224 : Ref sig .tc := ⟨.hbm, 242, rfl⟩
abbrev main_v225 : Ref sig .tc := ⟨.hbm, 243, rfl⟩
abbrev main_v226 : Ref sig .tc := ⟨.hbm, 244, rfl⟩
abbrev main_v227 : Ref sig .tc := ⟨.hbm, 245, rfl⟩
abbrev main_v228 : Ref sig .tc := ⟨.hbm, 246, rfl⟩
abbrev main_v229 : Ref sig .tc := ⟨.hbm, 247, rfl⟩
abbrev main_v230 : Ref sig .tc := ⟨.hbm, 248, rfl⟩
abbrev main_v231 : Ref sig .tc := ⟨.hbm, 249, rfl⟩
abbrev main_v232 : Ref sig .tc := ⟨.hbm, 250, rfl⟩
abbrev main_v233 : Ref sig .tc := ⟨.hbm, 251, rfl⟩
abbrev main_v234 : Ref sig .tc := ⟨.hbm, 252, rfl⟩
abbrev main_v235 : Ref sig .tc := ⟨.hbm, 253, rfl⟩
abbrev main_v236 : Ref sig .tc := ⟨.hbm, 254, rfl⟩
abbrev main_v237 : Ref sig .tc := ⟨.hbm, 255, rfl⟩
abbrev main_v238 : Ref sig .tc := ⟨.hbm, 256, rfl⟩
abbrev main_v239 : Ref sig .tc := ⟨.hbm, 257, rfl⟩
abbrev main_v240 : Ref sig .tc := ⟨.hbm, 258, rfl⟩
abbrev main_v241_0 : Ref sig .tc := ⟨.hbm, 259, rfl⟩
abbrev main_v241_1 : Ref sig .tc := ⟨.hbm, 260, rfl⟩
abbrev main_v241_2 : Ref sig .tc := ⟨.hbm, 261, rfl⟩
abbrev main_v242 : Ref sig .tc := ⟨.hbm, 262, rfl⟩
abbrev main_v243 : Ref sig .tc := ⟨.hbm, 263, rfl⟩
abbrev main_v244 : Ref sig .tc := ⟨.hbm, 264, rfl⟩
abbrev main_v245 : Ref sig .tc := ⟨.hbm, 265, rfl⟩
abbrev main_cst : Ref sig .tc := ⟨.hbm, 266, rfl⟩
abbrev main_v246 : Ref sig .tc := ⟨.hbm, 267, rfl⟩
abbrev main_cst_1 : Ref sig .tc := ⟨.hbm, 268, rfl⟩
abbrev main_v247 : Ref sig .tc := ⟨.hbm, 269, rfl⟩
abbrev main_cst_2 : Ref sig .tc := ⟨.hbm, 270, rfl⟩
abbrev main_v248 : Ref sig .tc := ⟨.hbm, 271, rfl⟩
abbrev main_v249 : Ref sig .tc := ⟨.hbm, 272, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x32x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x36x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S4x36 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S4x5 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x4x8192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x1024 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== ReferenceIdeal.lean ====
abbrev S8x2x512x512 : Shape := ⟨4, ![8, 2, 512, 512]⟩
abbrev S4x2x4x4 : Shape := ⟨4, ![4, 2, 4, 4]⟩
abbrev S4 : Shape := ⟨1, ![4]⟩
abbrev S4x4x3x3 : Shape := ⟨4, ![4, 4, 3, 3]⟩
abbrev S1024x256 : Shape := ⟨2, ![1024, 256]⟩
abbrev S_ : Shape := ⟨0, ![]⟩
abbrev S8x2x514x514 : Shape := ⟨4, ![8, 2, 514, 514]⟩
abbrev S8x2x256x256 : Shape := ⟨4, ![8, 2, 256, 256]⟩
abbrev S4x2x1x1 : Shape := ⟨4, ![4, 2, 1, 1]⟩
abbrev S4x2 : Shape := ⟨2, ![4, 2]⟩
abbrev S4x8x256x256 : Shape := ⟨4, ![4, 8, 256, 256]⟩
abbrev S8x4x256x256 : Shape := ⟨4, ![8, 4, 256, 256]⟩
abbrev S1x4x1x1 : Shape := ⟨4, ![1, 4, 1, 1]⟩
abbrev S8x4x258x258 : Shape := ⟨4, ![8, 4, 258, 258]⟩
abbrev S4x4x1x1 : Shape := ⟨4, ![4, 4, 1, 1]⟩
abbrev S4x4 : Shape := ⟨2, ![4, 4]⟩
abbrev S8x1024x256 : Shape := ⟨3, ![8, 1024, 256]⟩
abbrev S8x1024 : Shape := ⟨2, ![8, 1024]⟩
abbrev S8x1024x1 : Shape := ⟨3, ![8, 1024, 1]⟩
abbrev S1024 : Shape := ⟨1, ![1024]⟩
abbrev S8x1024x1024 : Shape := ⟨3, ![8, 1024, 1024]⟩
abbrev S1x1x1024 : Shape := ⟨3, ![1, 1, 1024]⟩
abbrev S1 : Shape := ⟨1, ![1]⟩
abbrev S1x1x1 : Shape := ⟨3, ![1, 1, 1]⟩
abbrev S8x256x1024 : Shape := ⟨3, ![8, 256, 1024]⟩

abbrev nBuf : Space → Nat
  | .hbm => 269
  | .vmem => 0
  | .smem => 0
  | _ => 0

abbrev hbmTy0_0 (i : Nat) : BufTy := match i % 128 with
  | 0 => ⟨S8x2x512x512, .f32⟩
  | 1 => ⟨S4x2x4x4, .f32⟩
  | 2 => ⟨S4, .f32⟩
  | 3 => ⟨S4, .f32⟩
  | 4 => ⟨S4, .f32⟩
  | 5 => ⟨S4, .f32⟩
  | 6 => ⟨S4, .f32⟩
  | 7 => ⟨S4x4x3x3, .f32⟩
  | 8 => ⟨S4, .f32⟩
  | 9 => ⟨S4, .f32⟩
  | 10 => ⟨S4, .f32⟩
  | 11 => ⟨S4, .f32⟩
  | 12 => ⟨S4, .f32⟩
  | 13 => ⟨S1024x256, .f32⟩
  | 14 => ⟨S_, .i32⟩
  | 15 => ⟨S_, .f32⟩
  | 16 => ⟨S8x2x514x514, .f32⟩
  | 17 => ⟨S8x2x256x256, .f32⟩
  | 18 => ⟨S4x2x1x1, .f32⟩
  | 19 => ⟨S4x2, .f32⟩
  | 20 => ⟨S4x8x256x256, .f32⟩
  | 21 => ⟨S8x4x256x256, .f32⟩
  | 22 => ⟨S8x2x256x256, .f32⟩
  | 23 => ⟨S4x2x1x1, .f32⟩
  | 24 => ⟨S4x2, .f32⟩
  | 25 => ⟨S4x8x256x256, .f32⟩
  | 26 => ⟨S8x4x256x256, .f32⟩
  | 27 => ⟨S8x4x256x256, .f32⟩
  | 28 => ⟨S8x2x256x256, .f32⟩
  | 29 => ⟨S4x2x1x1, .f32⟩
  | 30 => ⟨S4x2, .f32⟩
  | 31 => ⟨S4x8x256x256, .f32⟩
  | 32 => ⟨S8x4x256x256, .f32⟩
  | 33 => ⟨S8x4x256x256, .f32⟩
  | 34 => ⟨S8x2x256x256, .f32⟩
  | 35 => ⟨S4x2x1x1, .f32⟩
  | 36 => ⟨S4x2, .f32⟩
  | 37 => ⟨S4x8x256x256, .f32⟩
  | 38 => ⟨S8x4x256x256, .f32⟩
  | 39 => ⟨S8x4x256x256, .f32⟩
  | 40 => ⟨S8x2x256x256, .f32⟩
  | 41 => ⟨S4x2x1x1, .f32⟩
  | 42 => ⟨S4x2, .f32⟩
  | 43 => ⟨S4x8x256x256, .f32⟩
  | 44 => ⟨S8x4x256x256, .f32⟩
  | 45 => ⟨S8x4x256x256, .f32⟩
  | 46 => ⟨S8x2x256x256, .f32⟩
  | 47 => ⟨S4x2x1x1, .f32⟩
  | 48 => ⟨S4x2, .f32⟩
  | 49 => ⟨S4x8x256x256, .f32⟩
  | 50 => ⟨S8x4x256x256, .f32⟩
  | 51 => ⟨S8x4x256x256, .f32⟩
  | 52 => ⟨S8x2x256x256, .f32⟩
  | 53 => ⟨S4x2x1x1, .f32⟩
  | 54 => ⟨S4x2, .f32⟩
  | 55 => ⟨S4x8x256x256, .f32⟩
  | 56 => ⟨S8x4x256x256, .f32⟩
  | 57 => ⟨S8x4x256x256, .f32⟩
  | 58 => ⟨S8x2x256x256, .f32⟩
  | 59 => ⟨S4x2x1x1, .f32⟩
  | 60 => ⟨S4x2, .f32⟩
  | 61 => ⟨S4x8x256x256, .f32⟩
  | 62 => ⟨S8x4x256x256, .f32⟩
  | 63 => ⟨S8x4x256x256, .f32⟩
  | 64 => ⟨S8x2x256x256, .f32⟩
  | 65 => ⟨S4x2x1x1, .f32⟩
  | 66 => ⟨S4x2, .f32⟩
  | 67 => ⟨S4x8x256x256, .f32⟩
  | 68 => ⟨S8x4x256x256, .f32⟩
  | 69 => ⟨S8x4x256x256, .f32⟩
  | 70 => ⟨S8x2x256x256, .f32⟩
  | 71 => ⟨S4x2x1x1, .f32⟩
  | 72 => ⟨S4x2, .f32⟩
  | 73 => ⟨S4x8x256x256, .f32⟩
  | 74 => ⟨S8x4x256x256, .f32⟩
  | 75 => ⟨S8x4x256x256, .f32⟩
  | 76 => ⟨S8x2x256x256, .f32⟩
  | 77 => ⟨S4x2x1x1, .f32⟩
  | 78 => ⟨S4x2, .f32⟩
  | 79 => ⟨S4x8x256x256, .f32⟩
  | 80 => ⟨S8x4x256x256, .f32⟩
  | 81 => ⟨S8x4x256x256, .f32⟩
  | 82 => ⟨S8x2x256x256, .f32⟩
  | 83 => ⟨S4x2x1x1, .f32⟩
  | 84 => ⟨S4x2, .f32⟩
  | 85 => ⟨S4x8x256x256, .f32⟩
  | 86 => ⟨S8x4x256x256, .f32⟩
  | 87 => ⟨S8x4x256x256, .f32⟩
  | 88 => ⟨S8x2x256x256, .f32⟩
  | 89 => ⟨S4x2x1x1, .f32⟩
  | 90 => ⟨S4x2, .f32⟩
  | 91 => ⟨S4x8x256x256, .f32⟩
  | 92 => ⟨S8x4x256x256, .f32⟩
  | 93 => ⟨S8x4x256x256, .f32⟩
  | 94 => ⟨S8x2x256x256, .f32⟩
  | 95 => ⟨S4x2x1x1, .f32⟩
  | 96 => ⟨S4x2, .f32⟩
  | 97 => ⟨S4x8x256x256, .f32⟩
  | 98 => ⟨S8x4x256x256, .f32⟩
  | 99 => ⟨S8x4x256x256, .f32⟩
  | 100 => ⟨S8x2x256x256, .f32⟩
  | 101 => ⟨S4x2x1x1, .f32⟩
  | 102 => ⟨S4x2, .f32⟩
  | 103 => ⟨S4x8x256x256, .f32⟩
  | 104 => ⟨S8x4x256x256, .f32⟩
  | 105 => ⟨S8x4x256x256, .f32⟩
  | 106 => ⟨S8x2x256x256, .f32⟩
  | 107 => ⟨S4x2x1x1, .f32⟩
  | 108 => ⟨S4x2, .f32⟩
  | 109 => ⟨S4x8x256x256, .f32⟩
  | 110 => ⟨S8x4x256x256, .f32⟩
  | 111 => ⟨S8x4x256x256, .f32⟩
  | 112 => ⟨S1x4x1x1, .f32⟩
  | 113 => ⟨S8x4x256x256, .f32⟩
  | 114 => ⟨S8x4x256x256, .f32⟩
  | 115 => ⟨S1x4x1x1, .f32⟩
  | 116 => ⟨S8x4x256x256, .f32⟩
  | 117 => ⟨S8x4x256x256, .f32⟩
  | 118 => ⟨S1x4x1x1, .f32⟩
  | 119 => ⟨S_, .f32⟩
  | 120 => ⟨S1x4x1x1, .f32⟩
  | 121 => ⟨S1x4x1x1, .f32⟩
  | 122 => ⟨S1x4x1x1, .f32⟩
  | 123 => ⟨S8x4x256x256, .f32⟩
  | 124 => ⟨S8x4x256x256, .f32⟩
  | 125 => ⟨S1x4x1x1, .f32⟩
  | 126 => ⟨S8x4x256x256, .f32⟩
  | 127 => ⟨S8x4x256x256, .f32⟩
  | _ => ⟨S8x2x512x512, .f32⟩

abbrev hbmTy0_1 (i : Nat) : BufTy := match i % 128 with
  | 0 => ⟨S1x4x1x1, .f32⟩
  | 1 => ⟨S8x4x256x256, .f32⟩
  | 2 => ⟨S8x4x256x256, .f32⟩
  | 3 => ⟨S_, .f32⟩
  | 4 => ⟨S8x4x256x256, .f32⟩
  | 5 => ⟨S8x4x256x256, .f32⟩
  | 6 => ⟨S_, .i32⟩
  | 7 => ⟨S_, .f32⟩
  | 8 => ⟨S8x4x258x258, .f32⟩
  | 9 => ⟨S8x4x256x256, .f32⟩
  | 10 => ⟨S4x4x1x1, .f32⟩
  | 11 => ⟨S4x4, .f32⟩
  | 12 => ⟨S4x8x256x256, .f32⟩
  | 13 => ⟨S8x4x256x256, .f32⟩
  | 14 => ⟨S8x4x256x256, .f32⟩
  | 15 => ⟨S4x4x1x1, .f32⟩
  | 16 => ⟨S4x4, .f32⟩
  | 17 => ⟨S4x8x256x256, .f32⟩
  | 18 => ⟨S8x4x256x256, .f32⟩
  | 19 => ⟨S8x4x256x256, .f32⟩
  | 20 => ⟨S8x4x256x256, .f32⟩
  | 21 => ⟨S4x4x1x1, .f32⟩
  | 22 => ⟨S4x4, .f32⟩
  | 23 => ⟨S4x8x256x256, .f32⟩
  | 24 => ⟨S8x4x256x256, .f32⟩
  | 25 => ⟨S8x4x256x256, .f32⟩
  | 26 => ⟨S8x4x256x256, .f32⟩
  | 27 => ⟨S4x4x1x1, .f32⟩
  | 28 => ⟨S4x4, .f32⟩
  | 29 => ⟨S4x8x256x256, .f32⟩
  | 30 => ⟨S8x4x256x256, .f32⟩
  | 31 => ⟨S8x4x256x256, .f32⟩
  | 32 => ⟨S8x4x256x256, .f32⟩
  | 33 => ⟨S4x4x1x1, .f32⟩
  | 34 => ⟨S4x4, .f32⟩
  | 35 => ⟨S4x8x256x256, .f32⟩
  | 36 => ⟨S8x4x256x256, .f32⟩
  | 37 => ⟨S8x4x256x256, .f32⟩
  | 38 => ⟨S8x4x256x256, .f32⟩
  | 39 => ⟨S4x4x1x1, .f32⟩
  | 40 => ⟨S4x4, .f32⟩
  | 41 => ⟨S4x8x256x256, .f32⟩
  | 42 => ⟨S8x4x256x256, .f32⟩
  | 43 => ⟨S8x4x256x256, .f32⟩
  | 44 => ⟨S8x4x256x256, .f32⟩
  | 45 => ⟨S4x4x1x1, .f32⟩
  | 46 => ⟨S4x4, .f32⟩
  | 47 => ⟨S4x8x256x256, .f32⟩
  | 48 => ⟨S8x4x256x256, .f32⟩
  | 49 => ⟨S8x4x256x256, .f32⟩
  | 50 => ⟨S8x4x256x256, .f32⟩
  | 51 => ⟨S4x4x1x1, .f32⟩
  | 52 => ⟨S4x4, .f32⟩
  | 53 => ⟨S4x8x256x256, .f32⟩
  | 54 => ⟨S8x4x256x256, .f32⟩
  | 55 => ⟨S8x4x256x256, .f32⟩
  | 56 => ⟨S8x4x256x256, .f32⟩
  | 57 => ⟨S4x4x1x1, .f32⟩
  | 58 => ⟨S4x4, .f32⟩
  | 59 => ⟨S4x8x256x256, .f32⟩
  | 60 => ⟨S8x4x256x256, .f32⟩
  | 61 => ⟨S8x4x256x256, .f32⟩
  | 62 => ⟨S1x4x1x1, .f32⟩
  | 63 => ⟨S8x4x256x256, .f32⟩
  | 64 => ⟨S8x4x256x256, .f32⟩
  | 65 => ⟨S8x4x256x256, .f32⟩
  | 66 => ⟨S1x4x1x1, .f32⟩
  | 67 => ⟨S8x4x256x256, .f32⟩
  | 68 => ⟨S8x4x256x256, .f32⟩
  | 69 => ⟨S1x4x1x1, .f32⟩
  | 70 => ⟨S_, .f32⟩
  | 71 => ⟨S1x4x1x1, .f32⟩
  | 72 => ⟨S1x4x1x1, .f32⟩
  | 73 => ⟨S1x4x1x1, .f32⟩
  | 74 => ⟨S8x4x256x256, .f32⟩
  | 75 => ⟨S8x4x256x256, .f32⟩
  | 76 => ⟨S1x4x1x1, .f32⟩
  | 77 => ⟨S8x4x256x256, .f32⟩
  | 78 => ⟨S8x4x256x256, .f32⟩
  | 79 => ⟨S1x4x1x1, .f32⟩
  | 80 => ⟨S8x4x256x256, .f32⟩
  | 81 => ⟨S8x4x256x256, .f32⟩
  | 82 => ⟨S8x4x256x256, .f32⟩
  | 83 => ⟨S8x1024x256, .f32⟩
  | 84 => ⟨S8x1024x256, .f32⟩
  | 85 => ⟨S_, .f32⟩
  | 86 => ⟨S8x1024, .f32⟩
  | 87 => ⟨S8x1024x1, .f32⟩
  | 88 => ⟨S1024x256, .f32⟩
  | 89 => ⟨S_, .f32⟩
  | 90 => ⟨S1024, .f32⟩
  | 91 => ⟨S8x1024x1024, .f32⟩
  | 92 => ⟨S_, .f32⟩
  | 93 => ⟨S8x1024x1024, .f32⟩
  | 94 => ⟨S8x1024x1024, .f32⟩
  | 95 => ⟨S8x1024x1024, .f32⟩
  | 96 => ⟨S8x1024x1024, .f32⟩
  | 97 => ⟨S1x1x1024, .f32⟩
  | 98 => ⟨S8x1024x1024, .f32⟩
  | 99 => ⟨S8x1024x1024, .f32⟩
  | 100 => ⟨S8x1024x1024, .i32⟩
  | 101 => ⟨S_, .f32⟩
  | 102 => ⟨S_, .i32⟩
  | 103 => ⟨S8x1024, .f32⟩
  | 104 => ⟨S8x1024, .i32⟩
  | 105 => ⟨S_, .i32⟩
  | 106 => ⟨S8x1024, .i32⟩
  | 107 => ⟨S8x1024, .i1⟩
  | 108 => ⟨S_, .i32⟩
  | 109 => ⟨S8x1024, .i32⟩
  | 110 => ⟨S8x1024, .i32⟩
  | 111 => ⟨S8x1024, .i32⟩
  | 112 => ⟨S8x1024x1, .i32⟩
  | 113 => ⟨S1, .i32⟩
  | 114 => ⟨S_, .i32⟩
  | 115 => ⟨S8x1024x1, .i32⟩
  | 116 => ⟨S8x1024x1, .i1⟩
  | 117 => ⟨S1x1x1, .i32⟩
  | 118 => ⟨S8x1024x1, .i32⟩
  | 119 => ⟨S8x1024x1, .i1⟩
  | 120 => ⟨S8x1024x1, .i1⟩
  | 121 => ⟨S_, .i1⟩
  | 122 => ⟨S8x1024, .i1⟩
  | 123 => ⟨S8x1024x256, .f32⟩
  | 124 => ⟨S8x1024x256, .i1⟩
  | 125 => ⟨S_, .f32⟩
  | 126 => ⟨S8x1024x256, .f32⟩
  | 127 => ⟨S8x1024x256, .f32⟩
  | _ => ⟨S8x2x512x512, .f32⟩

abbrev hbmTy0_2 (i : Nat) : BufTy := match i % 128 with
  | 0 => ⟨S8x1024x256, .f32⟩
  | 1 => ⟨S8x1024x256, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S8x1024x256, .f32⟩
  | 9 => ⟨S8x1024x256, .f32⟩
  | 10 => ⟨S8x256x1024, .f32⟩
  | 11 => ⟨S8x1024x1, .i32⟩
  | 12 => ⟨S1, .f32⟩
  | _ => ⟨S8x2x512x512, .f32⟩

abbrev hbmTy (i : Nat) : BufTy := match i / 128 with
  | 0 => hbmTy0_0 i
  | 1 => hbmTy0_1 i
  | 2 => hbmTy0_2 i
  | _ => ⟨S8x2x512x512, .f32⟩

abbrev bufTy : (tb : Table) → Fin (tcTables nBuf tb) → BufTy
  | .hbm, ⟨i, _⟩ => hbmTy i
  | _, _ => ⟨S8x2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_cst : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_call1_cst : Ref sig .tc := ⟨.hbm, 131, rfl⟩
abbrev main_call1_v0 : Ref sig .tc := ⟨.hbm, 132, rfl⟩
abbrev main_v114 : Ref sig .tc := ⟨.hbm, 133, rfl⟩
abbrev main_c_0 : Ref sig .tc := ⟨.hbm, 134, rfl⟩
abbrev main_call2_v0 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_cst_1 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_cst_2 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_cst_3 : Ref sig .tc := ⟨.hbm, 217, rfl⟩
abbrev main_v194 : Ref sig .tc := ⟨.hbm, 218, rfl⟩
abbrev main_v195 : Ref sig .tc := ⟨.hbm, 219, rfl⟩
abbrev main_cst_4 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_call3_v0 : Ref sig .tc := ⟨.hbm, 228, rfl⟩
abbrev main_call3_cst : Ref sig .tc := ⟨.hbm, 229, rfl⟩
abbrev main_call3_c : Ref sig .tc := ⟨.hbm, 230, rfl⟩
abbrev main_call3_v1_0 : Ref sig .tc := ⟨.hbm, 231, rfl⟩
abbrev main_v203 : Ref sig .tc := ⟨.hbm, 232, rfl⟩
abbrev main_call4_c : Ref sig .tc := ⟨.hbm, 233, rfl⟩
abbrev main_call4_v0 : Ref sig .tc := ⟨.hbm, 234, rfl⟩
abbrev main_call4_v1 : Ref sig .tc := ⟨.hbm, 235, rfl⟩
abbrev main_call4_c_0 : Ref sig .tc := ⟨.hbm, 236, rfl⟩
abbrev main_call4_v2 : Ref sig .tc := ⟨.hbm, 237, rfl⟩
abbrev main_call4_v3 : Ref sig .tc := ⟨.hbm, 238, rfl⟩
abbrev main_call4_v4 : Ref sig .tc := ⟨.hbm, 239, rfl⟩
abbrev main_call4_v5 : Ref sig .tc := ⟨.hbm, 240, rfl⟩
abbrev main_call4_c_1 : Ref sig .tc := ⟨.hbm, 241, rfl⟩
abbrev main_call4_c_2 : Ref sig .tc := ⟨.hbm, 242, rfl⟩
abbrev main_call4_v6 : Ref sig .tc := ⟨.hbm, 243, rfl⟩
abbrev main_call4_v7 : Ref sig .tc := ⟨.hbm, 244, rfl⟩
abbrev main_call4_v8 : Ref sig .tc := ⟨.hbm, 245, rfl⟩
abbrev main_call4_v9 : Ref sig .tc := ⟨.hbm, 246, rfl⟩
abbrev main_call4_v10 : Ref sig .tc := ⟨.hbm, 247, rfl⟩
abbrev main_call4_v11 : Ref sig .tc := ⟨.hbm, 248, rfl⟩
abbrev main_call4_c_3 : Ref sig .tc := ⟨.hbm, 249, rfl⟩
abbrev main_call4_v12 : Ref sig .tc := ⟨.hbm, 250, rfl⟩
abbrev main_call4_v13 : Ref sig .tc := ⟨.hbm, 251, rfl⟩
abbrev main_call4_v14 : Ref sig .tc := ⟨.hbm, 252, rfl⟩
abbrev main_call4_cst : Ref sig .tc := ⟨.hbm, 253, rfl⟩
abbrev main_call4_v15 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_cst_5 : Ref sig .tc := ⟨.hbm, 258, rfl⟩
abbrev main_v207 : Ref sig .tc := ⟨.hbm, 259, rfl⟩
abbrev main_cst_6 : Ref sig .tc := ⟨.hbm, 260, rfl⟩
abbrev main_v208 : Ref sig .tc := ⟨.hbm, 261, rfl⟩
abbrev main_cst_7 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩

abbrev nD : Nat := 1
abbrev τ : Topo := Topo.v7x

variable {F : FTy → Type} [FloatOps F]
-- ==== Proof.KerHost.lean ====
/- The kernels' other operands and the host's steps around the kernels, from what those steps read. -/
module

public import proofs.«01_k».proof.Proof.Gen.KernelIdeal.Frame
public import Idealize.ShloMosaic.Lib.Pipeline.ValueKit
public import Idealize.ShloMosaic.Lib.Pointwise

@[expose] public section

set_option Elab.async false
set_option maxRecDepth 65536
set_option maxHeartbeats 40000000

noncomputable section

namespace Cert.Ker

open Cert.KernelIdeal Cert.KernelIdeal.Gen
open Idealize.ShloMosaic Idealize.ShloMosaic.TcCoe
open Idealize.SL Idealize.SL.Sem Idealize.ShloMosaic.StableHlo

variable {F : FTy → Type} [FloatOps F]

/-- The first kernel's weights as a matrix. -/
def weights1 (w : FVec F S4x2x4x4 .f32) : FVec F S4x32 .bf16 :=
  truncf .bf16 (shapeCast S4x32 w shapeCasts_S4x2x4x4_S4x32) bitsLt_bf16_f32

/-- The second kernel's weights as a matrix. -/
def weights2 (w : FVec F S4x4x3x3 .f32) : FVec F S4x36 .bf16 :=
  truncf .bf16 (shapeCast S4x36 w shapeCasts_S4x4x3x3_S4x36) bitsLt_bf16_f32

/-- Five per-channel vectors as the columns of one array. -/
def columns (a b c d e : FVec F S4 .f32) : FVec F S4x5 .f32 :=
  concatenate S4x5 1
    [⟨S4x1, broadcastInDim S4x1 ![0] bcast_S4_S4x1_0 a⟩, ⟨S4x1, broadcastInDim S4x1 ![0] bcast_S4_S4x1_0 b⟩,
      ⟨S4x1, broadcastInDim S4x1 ![0] bcast_S4_S4x1_0 c⟩, ⟨S4x1, broadcastInDim S4x1 ![0] bcast_S4_S4x1_0 d⟩,
      ⟨S4x1, broadcastInDim S4x1 ![0] bcast_S4_S4x1_0 e⟩]
    concatenates_S4x1_S4x1_S4x1_S4x1_S4x1_S4x5_d1

/-- The second operand of the first kernel. -/
theorem weights1_read (V : Valuation τ sig (Elt F)) :
    after hostOps0_2 V (Proc.devRef .tc main_v103) = weights1 (V (Proc.devRef .tc main_arg1)) := by
  simp only [hostOps0_2]
  after_results_simp
  rfl

/-- The third operand of the first kernel. -/
theorem columns1_read (V : Valuation τ sig (Elt F)) :
    after hostOps0_2 V (Proc.devRef .tc main_v109) = columns (V (Proc.devRef .tc main_arg2)) (V (Proc.devRef .tc main_arg3))
      (V (Proc.devRef .tc main_arg4)) (V (Proc.devRef .tc main_arg5)) (V (Proc.devRef .tc main_arg6)) := by
  simp only [hostOps0_2]
  after_results_simp
  rfl

/-- The third operand of the second kernel. -/
theorem weights2_read (V : Valuation τ sig (Elt F)) :
    after hostOps1_2 V (Proc.devRef .tc main_v228) = weights2 (V (Proc.devRef .tc main_arg7)) := by
  simp only [hostOps1_2]
  after_results_simp
  rfl

/-- The fourth operand of the second kernel. -/
theorem columns2_read (V : Valuation τ sig (Elt F)) :
    after hostOps1_2 V (Proc.devRef .tc main_v234) = columns (V (Proc.devRef .tc main_arg8)) (V (Proc.devRef .tc main_arg9))
      (V (Proc.devRef .tc main_arg10)) (V (Proc.devRef .tc main_arg11)) (V (Proc.devRef .tc main_arg12)) := by
  simp only [hostOps1_2]
  after_results_simp
  rfl

/-- The second operand of the second kernel. -/
theorem middle_read (V : Valuation τ sig (Elt F)) :
    after hostOps1_2 V (Proc.devRef .tc main_v235)
      = shapeCast S8x4x65536 (V (Proc.devRef .tc main_v111) : FVec F S8x4x256x256 .f32) shapeCasts_S8x4x256x256_S8x4x65536 := by
  simp only [hostOps1_2]
  after_results_simp
  rfl

/-- The input padded by one on each side. -/
def padded1 (x : FVec F S8x2x512x512 .f32) : FVec F S8x2x514x514 .f32 :=
  pad S8x2x514x514 ![0, 0, 1, 1] ![0, 0, 1, 1] ![0, 0, 0, 0] x (sitofp .f32 (constantI S_ 32 0#32))
    pads_S8x2x512x512_S8x2x514x514_000_000_110_110 h_S_

/-- The middle array padded by one on each side. -/
def padded2 (y : FVec F S8x4x256x256 .f32) : FVec F S8x4x258x258 .f32 :=
  pad S8x4x258x258 ![0, 0, 1, 1] ![0, 0, 1, 1] ![0, 0, 0, 0] y (sitofp .f32 (constantI S_ 32 0#32))
    pads_S8x4x256x256_S8x4x258x258_000_000_110_110 h_S_

/-- The two stretches that pad the input. -/
theorem padded1_read (V : Valuation τ sig (Elt F)) :
    after hostOps0_1 (after hostOps0 V) (Proc.devRef .tc main_v0) = padded1 (V (Proc.devRef .tc main_arg0)) := by
  simp only [hostOps0, hostOps0_1]
  after_results_simp
  rfl

/-- The first kernel's result, reshaped: the middle array. -/
theorem reshaped_read (V : Valuation τ sig (Elt F)) :
    after hostOps1 V (Proc.devRef .tc main_v111)
      = shapeCast S8x4x256x256 (V (Proc.devRef .tc main_v110) : FVec F S8x4x65536 .f32) shapeCasts_S8x4x65536_S8x4x256x256 := by
  simp only [hostOps1]
  after_results_simp
  rfl

/-- The stretches that pad the middle array. -/
theorem padded2_read (V : Valuation τ sig (Elt F)) :
    after hostOps1_1 (after hostOps1 V) (Proc.devRef .tc main_v112)
      = padded2 (shapeCast S8x4x256x256 (V (Proc.devRef .tc main_v110) : FVec F S8x4x65536 .f32) shapeCasts_S8x4x65536_S8x4x256x256) := by
  simp only [hostOps1, hostOps1_1]
  after_results_simp
  rfl

/-- The rows to quantise: the second kernel's result with the last two axes exchanged and the rows laid out. -/
def laidOut (r : FVec F S8x4x65536 .f32) : FVec F S8x1024x256 .f32 :=
  shapeCast S8x1024x256
    (transpose S8x4x256x256 [0, 1, 3, 2] (shapeCast S8x4x256x256 r shapeCasts_S8x4x65536_S8x4x256x256)
      transposes_S8x4x256x256_S8x4x256x256_0_1_3_2) shapeCasts_S8x4x256x256_S8x1024x256

/-- The first operand of the third kernel. -/
theorem laidOut_read (V : Valuation τ sig (Elt F)) :
    after hostOps2 V (Proc.devRef .tc main_v239) = laidOut (V (Proc.devRef .tc main_v236)) := by
  simp only [hostOps2]
  after_results_simp
  rfl

/-- The third operand of the third kernel. -/
theorem turned_read (V : Valuation τ sig (Elt F)) :
    after hostOps2 V (Proc.devRef .tc main_v240)
      = transpose S256x1024 [1, 0] (V (Proc.devRef .tc main_arg13) : FVec F S1024x256 .f32) transposes_S1024x256_S256x1024_1_0 := by
  simp only [hostOps2]
  after_results_simp

/-- The second result from the third kernel's numbers. -/
def numbersOf (n : IVec S8x1x1024 32) : IVec S8x1024x1 32 :=
  broadcastInDim S8x1024x1 ![0, 1] bcast_S8x1024_S8x1024x1_0_1 (shapeCast S8x1024 n shapeCasts_S8x1x1024_S8x1024)

/-- The third result from the third kernel's sums. -/
def lossOf (s : FVec F S8x1x128 .f32) : FVec F S1 .f32 :=
  broadcastInDim S1 ![] bcast_S_S1
    (mulf (constant S_ .f32 0x3C23D70A#32)
      (Host.divf
        (Host.reduceAdd (shapeCast S8 (extractStridedSlice S8x1x1 ![0, 0, 0] s slices_S8x1x128_S8x1x1_0_0_0) shapeCasts_S8x1x1_S8)
          (constant S_ .f32 0x00000000#32) reducesTo_S8_S_d0 h_S_) (constant S_ .f32 0x4A000000#32)))

/-- The second result's buffer at the end. -/
theorem numbers_read (V : Valuation τ sig (Elt F)) :
    after hostOps3 V (Proc.devRef .tc main_v243) = numbersOf (V (Proc.devRef .tc main_v241_1)) := by
  simp only [hostOps3]
  after_results_simp
  rfl

/-- The third result's buffer at the end. -/
theorem loss_read (V : Valuation τ sig (Elt F)) :
    after hostOps3 V (Proc.devRef .tc main_v249) = lossOf (V (Proc.devRef .tc main_v241_2)) := by
  simp only [hostOps3]
  after_results_simp
  rfl

end Cert.Ker

end
-- ==== Proof.KerPatches1.lean ====
/- The patches the first kernel reads, from the padded input. -/
module

public import proofs.«01_k».proof.Proof.Gen.KernelIdeal.Frame
public import Idealize.ShloMosaic.Lib.Pipeline.ValueKit
public import Idealize.ShloMosaic.Lib.Pointwise

@[expose] public section

set_option Elab.async false
set_option maxRecDepth 65536
set_option maxHeartbeats 40000000

noncomputable section

namespace Cert.Ker

open Cert.KernelIdeal Cert.KernelIdeal.Gen
open Idealize.ShloMosaic Idealize.ShloMosaic.TcCoe
open Idealize.SL Idealize.SL.Sem Idealize.ShloMosaic.StableHlo

variable {F : FTy → Type} [FloatOps F]

/-- Every strided window of the padded input lies inside it. -/
theorem inPadded1 : ∀ (ci : Fin 2) (kh kw : Fin 4),
    S8x2x514x514.SlicesBy ![0, ci.val, kh.val, kw.val] ![1, 1, 2, 2] S8x1x256x256 := by decide

/-- The plane of one channel under one tap of the first kernel. -/
def plane1 (ci : Fin 2) (kh kw : Fin 4) (xp : FVec F S8x2x514x514 .f32) : FVec F S8x1x256x256 .f32 :=
  broadcastInDim S8x1x256x256 ![0, 2, 3] bcast_S8x256x256_S8x1x256x256_0_2_3
    (shapeCast S8x256x256 (Host.slice S8x1x256x256 ![0, ci.val, kh.val, kw.val] ![1, 1, 2, 2] xp (inPadded1 ci kh kw))
      shapeCasts_S8x1x256x256_S8x256x256)

/-- The sixteen planes of one channel stacked. -/
def channelPlanes (ci : Fin 2) (xp : FVec F S8x2x514x514 .f32) : FVec F S8x16x256x256 .f32 :=
  concatenate S8x16x256x256 1
    (List.ofFn fun g : Fin 16 => (⟨S8x1x256x256, plane1 ci ⟨g.val / 4, by omega⟩ ⟨g.val % 4, by omega⟩ xp⟩ : (s : Shape) × (s.Idx → F .f32)))
    concatenates_S8x1x256x256_S8x1x256x256_S8x1x256x256_S8x1x256x256_S8x1x256x256_S8x1x256x256_S8x1x256x256_S8x1x256x256_S8x1x256x256_S8x1x256x256_S8x1x256x256_S8x1x256x256_S8x1x256x256_S8x1x256x256_S8x1x256x256_S8x1x256x256_S8x16x256x256_d1

/-- The first kernel's patches. -/
def patches1 (xp : FVec F S8x2x514x514 .f32) : FVec F S8x32x65536 .bf16 :=
  shapeCast S8x32x65536
    (truncf .bf16 (concatenate S8x32x256x256 1 [⟨S8x16x256x256, channelPlanes 0 xp⟩, ⟨S8x16x256x256, channelPlanes 1 xp⟩]
      concatenates_S8x16x256x256_S8x16x256x256_S8x32x256x256_d1) bitsLt_bf16_f32)
    shapeCasts_S8x32x256x256_S8x32x65536

/-- After the stretch before the first kernel, its first operand is the patches of the padded input. -/
theorem patches1_read (V : Valuation τ sig (Elt F)) :
    after hostOps0_2 V (Proc.devRef .tc main_v101) = patches1 (V (Proc.devRef .tc main_v0)) := by
  simp only [hostOps0_2]
  after_results_simp
  rfl

/-- One plane read at an index: the padded input two steps apart, moved by the tap. -/
theorem plane1_apply (ci : Fin 2) (kh kw : Fin 4) (xp : FVec F S8x2x514x514 .f32) (b : Fin 8) (z : Fin 1) (h v : Fin 256) :
    plane1 ci kh kw xp (ix4 b z h v)
      = xp (ix4 b ci ⟨kh.val + 2 * h.val, by omega⟩ ⟨kw.val + 2 * v.val, by omega⟩) := by
  pointwise [plane1]

/-- One channel's stack read at an index: plane `g` is tap `(g / 4, g % 4)`. -/
theorem channelPlanes_apply (ci : Fin 2) (xp : FVec F S8x2x514x514 .f32) (b : Fin 8) (g : Fin 16) (h v : Fin 256) :
    channelPlanes ci xp (ix4 b g h v)
      = xp (ix4 b ci ⟨g.val / 4 + 2 * h.val, by omega⟩ ⟨g.val % 4 + 2 * v.val, by omega⟩) := by
  unfold channelPlanes
  refine concatenate_ofFn_unit_eq (s₁ := S8x1x256x256) 1 _ _ _ _ rfl rfl fun n i hn h0 hi => ?_
  obtain rfl : g = n := Fin.ext hn
  obtain rfl : i = ix4 b 0 h v := by
    funext a
    fin_cases a
    · exact Fin.ext (hi 0 (by decide))
    · exact Fin.ext h0
    · exact Fin.ext (hi 2 (by decide))
    · exact Fin.ext (hi 3 (by decide))
  rw [plane1_apply]

/-- The patches read at an index, at `Ideal`: row `16 ci + g` is channel `ci` under tap `(g / 4, g % 4)`. -/
theorem patches1_apply (xp : FVec Ideal S8x2x514x514 .f32) (b : Fin 8) (ci : Fin 2) (g : Fin 16) (h v : Fin 256) :
    patches1 xp (ix3 b ⟨ci.val * 16 + g.val, by omega⟩ ⟨h.val * 256 + v.val, by omega⟩)
      = xp (ix4 b ci ⟨g.val / 4 + 2 * h.val, by omega⟩ ⟨g.val % 4 + 2 * v.val, by omega⟩) := by
  rw [← channelPlanes_apply ci xp b g h v]
  pointwise [patches1]
  fin_cases ci
  · rw [dif_pos (by simp)]
    simp
  · rw [dif_neg (by simp)]
    simp

end Cert.Ker

end
-- ==== Proof.KerPatches2.lean ====
/- The patches the second kernel reads, from the padded middle array. -/
module

public import proofs.«01_k».proof.Proof.Gen.KernelIdeal.Frame
public import Idealize.ShloMosaic.Lib.Pipeline.ValueKit
public import Idealize.ShloMosaic.Lib.Pointwise

@[expose] public section

set_option Elab.async false
set_option maxRecDepth 65536
set_option maxHeartbeats 40000000

noncomputable section

namespace Cert.Ker

open Cert.KernelIdeal Cert.KernelIdeal.Gen
open Idealize.ShloMosaic Idealize.ShloMosaic.TcCoe
open Idealize.SL Idealize.SL.Sem Idealize.ShloMosaic.StableHlo

variable {F : FTy → Type} [FloatOps F]

/-- Every window of the padded middle array lies inside it. -/
theorem inPadded2 : ∀ (ci : Fin 4) (kh kw : Fin 3),
    S8x4x258x258.Slices ![0, ci.val, kh.val, kw.val] S8x1x256x256 := by decide

/-- The plane of one channel under one tap of the second kernel: plane `k` is channel `k / 9` under tap `(k % 9 / 3, k % 3)`. -/
def plane2 (k : Fin 36) (yp : FVec F S8x4x258x258 .f32) : FVec F S8x1x256x256 .f32 :=
  broadcastInDim S8x1x256x256 ![0, 2, 3] bcast_S8x256x256_S8x1x256x256_0_2_3
    (shapeCast S8x256x256
      (extractStridedSlice S8x1x256x256 ![0, k.val / 9, k.val % 9 / 3, k.val % 3] yp
        (inPadded2 ⟨k.val / 9, by omega⟩ ⟨k.val % 9 / 3, by omega⟩ ⟨k.val % 3, by omega⟩))
      shapeCasts_S8x1x256x256_S8x256x256)

/-- Sixteen planes stacked, from plane `a`. -/
def sixteen (a : Nat) (ha : a + 16 ≤ 36) (yp : FVec F S8x4x258x258 .f32) : FVec F S8x16x256x256 .f32 :=
  concatenate S8x16x256x256 1
    (List.ofFn fun g : Fin 16 => (⟨S8x1x256x256, plane2 ⟨a + g.val, by omega⟩ yp⟩ : (s : Shape) × (s.Idx → F .f32)))
    concatenates_S8x1x256x256_S8x1x256x256_S8x1x256x256_S8x1x256x256_S8x1x256x256_S8x1x256x256_S8x1x256x256_S8x1x256x256_S8x1x256x256_S8x1x256x256_S8x1x256x256_S8x1x256x256_S8x1x256x256_S8x1x256x256_S8x1x256x256_S8x1x256x256_S8x16x256x256_d1

/-- The last four planes stacked. -/
def lastFour (yp : FVec F S8x4x258x258 .f32) : FVec F S8x4x256x256 .f32 :=
  concatenate S8x4x256x256 1
    (List.ofFn fun g : Fin 4 => (⟨S8x1x256x256, plane2 ⟨32 + g.val, by omega⟩ yp⟩ : (s : Shape) × (s.Idx → F .f32)))
    concatenates_S8x1x256x256_S8x1x256x256_S8x1x256x256_S8x1x256x256_S8x4x256x256_d1

/-- The second kernel's patches. -/
def patches2 (yp : FVec F S8x4x258x258 .f32) : FVec F S8x36x65536 .bf16 :=
  shapeCast S8x36x65536
    (truncf .bf16 (concatenate S8x36x256x256 1 [⟨S8x16x256x256, sixteen 0 (by decide) yp⟩,
        ⟨S8x16x256x256, sixteen 16 (by decide) yp⟩, ⟨S8x4x256x256, lastFour yp⟩]
      concatenates_S8x16x256x256_S8x16x256x256_S8x4x256x256_S8x36x256x256_d1) bitsLt_bf16_f32)
    shapeCasts_S8x36x256x256_S8x36x65536

/-- After the stretch before the second kernel, its first operand is the patches of the padded middle array. -/
theorem patches2_read (V : Valuation τ sig (Elt F)) :
    after hostOps1_2 V (Proc.devRef .tc main_v226) = patches2 (V (Proc.devRef .tc main_v112)) := by
  simp only [hostOps1_2]
  after_results_simp
  rfl

/-- One plane read at an index: the padded middle array moved by the tap. -/
theorem plane2_apply (k : Fin 36) (yp : FVec F S8x4x258x258 .f32) (b : Fin 8) (z : Fin 1) (h v : Fin 256) :
    plane2 k yp (ix4 b z h v)
      = yp (ix4 b ⟨k.val / 9, by omega⟩ ⟨k.val % 9 / 3 + h.val, by omega⟩ ⟨k.val % 3 + v.val, by omega⟩) := by
  pointwise [plane2]

/-- A stack of planes read at an index. -/
theorem sixteen_apply (a : Nat) (ha : a + 16 ≤ 36) (yp : FVec F S8x4x258x258 .f32) (b : Fin 8) (g : Fin 16) (h v : Fin 256) :
    sixteen a ha yp (ix4 b g h v) = plane2 ⟨a + g.val, by omega⟩ yp (ix4 b 0 h v) := by
  unfold sixteen
  refine concatenate_ofFn_unit_eq (s₁ := S8x1x256x256) 1 _ _ _ _ rfl rfl fun n i hn h0 hi => ?_
  obtain rfl : g = n := Fin.ext hn
  obtain rfl : i = ix4 b 0 h v := by
    funext a
    fin_cases a
    · exact Fin.ext (hi 0 (by decide))
    · exact Fin.ext h0
    · exact Fin.ext (hi 2 (by decide))
    · exact Fin.ext (hi 3 (by decide))
  rfl

/-- The last stack read at an index. -/
theorem lastFour_apply (yp : FVec F S8x4x258x258 .f32) (b : Fin 8) (g : Fin 4) (h v : Fin 256) :
    lastFour yp (ix4 b g h v) = plane2 ⟨32 + g.val, by omega⟩ yp (ix4 b 0 h v) := by
  unfold lastFour
  refine concatenate_ofFn_unit_eq (s₁ := S8x1x256x256) 1 _ _ _ _ rfl rfl fun n i hn h0 hi => ?_
  obtain rfl : g = n := Fin.ext hn
  obtain rfl : i = ix4 b 0 h v := by
    funext a
    fin_cases a
    · exact Fin.ext (hi 0 (by decide))
    · exact Fin.ext h0
    · exact Fin.ext (hi 2 (by decide))
    · exact Fin.ext (hi 3 (by decide))
  rfl

/-- The patches read at an index, at `Ideal`: row `k` is plane `k`. -/
theorem patches2_apply (yp : FVec Ideal S8x4x258x258 .f32) (b : Fin 8) (k : Fin 36) (h v : Fin 256) :
    patches2 yp (ix3 b k ⟨h.val * 256 + v.val, by omega⟩)
      = yp (ix4 b ⟨k.val / 9, by omega⟩ ⟨k.val % 9 / 3 + h.val, by omega⟩ ⟨k.val % 3 + v.val, by omega⟩) := by
  rw [← plane2_apply k yp b 0 h v]
  pointwise [patches2]
  by_cases h1 : k.val < 16
  · rw [dif_pos h1, sixteen_apply]
    simp
  rw [dif_neg h1]
  by_cases h2 : k.val - 16 < 16
  · rw [dif_pos h2, sixteen_apply]
    simp only [show 16 + (k.val - 16) = k.val by omega]
  · rw [dif_neg h2, lastFour_apply]
    simp only [show 32 + (k.val - 16 - 16) = k.val by omega]

end Cert.Ker

end
-- ==== Proof.RefOps.lean ====
/- The reference's operations, in order, cut where a named stage of the computation ends; and the program as their sequence. -/
module

public import proofs.«01_k».proof.Proof.Gen.ReferenceIdeal
public import Idealize.ShloMosaic.Lib.StableHlo.Run

@[expose] public section

set_option Elab.async false
set_option maxRecDepth 16384

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-- Operations 1 … 3: the input padded by one on each side. -/
abbrev padIn : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S8x2x512x512, .f32⟩) main_arg0) (TRef.of (T := ⟨S_, .f32⟩) main_call0_v0) (TRef.of (T := ⟨S8x2x514x514, .f32⟩) main_v0) (fun x v => pad S8x2x514x514 ![0, 0, 1, 1] ![0, 0, 1, 1] ![0, 0, 0, 0] x v pads_S8x2x512x512_S8x2x514x514_000_000_110_110 h_S_) ]

/-- Operations 4 … 26: the first convolution, kernel row 0. -/
abbrev rowA : List (HloOp τ sig (Elt F)) :=
  [ unary main_v0 main_v1 ((Host.slice S8x2x256x256 ![0, 0, 0, 0] ![1, 1, 2, 2] · slicesBy_S8x2x514x514_S8x2x256x256_0s1_0s1_0s2_0s2) : (⟨S8x2x514x514, .f32⟩ : BufTy).Contents (Elt F) → (⟨S8x2x256x256, .f32⟩ : BufTy).Contents (Elt F)),
    unary main_arg1 main_v2 ((extractStridedSlice S4x2x1x1 ![0, 0, 0, 0] · slices_S4x2x4x4_S4x2x1x1_0_0_0_0) : (⟨S4x2x4x4, .f32⟩ : BufTy).Contents (Elt F) → (⟨S4x2x1x1, .f32⟩ : BufTy).Contents (Elt F)),
    reshape main_v2 main_v3 (rfl : (.f32 : EltTy) = .f32) shapeCasts_S4x2x1x1_S4x2,
    binary main_v3 main_v1 main_v4 ((fun l r => Host.dotGeneral dot_S4x2_S8x2x256x256_S4x8x256x256_1_1_0_023_n_n none l r) : (⟨S4x2, .f32⟩ : BufTy).Contents (Elt F) → (⟨S8x2x256x256, .f32⟩ : BufTy).Contents (Elt F) → (⟨S4x8x256x256, .f32⟩ : BufTy).Contents (Elt F)),
    unary main_v4 main_v5 ((transpose S8x4x256x256 [1, 0, 2, 3] · transposes_S4x8x256x256_S8x4x256x256_1_0_2_3) : (⟨S4x8x256x256, .f32⟩ : BufTy).Contents (Elt F) → (⟨S8x4x256x256, .f32⟩ : BufTy).Contents (Elt F)),
    unary main_v0 main_v6 ((Host.slice S8x2x256x256 ![0, 0, 0, 1] ![1, 1, 2, 2] · slicesBy_S8x2x514x514_S8x2x256x256_0s1_0s1_0s2_1s2) : (⟨S8x2x514x514, .f32⟩ : BufTy).Contents (Elt F) → (⟨S8x2x256x256, .f32⟩ : BufTy).Contents (Elt F)),
    unary main_arg1 main_v7 ((extractStridedSlice S4x2x1x1 ![0, 0, 0, 1] · slices_S4x2x4x4_S4x2x1x1_0_0_0_1) : (⟨S4x2x4x4, .f32⟩ : BufTy).Contents (Elt F) → (⟨S4x2x1x1, .f32⟩ : BufTy).Contents (Elt F)),
    reshape main_v7 main_v8 (rfl : (.f32 : EltTy) = .f32) shapeCasts_S4x2x1x1_S4x2,
    binary main_v8 main_v6 main_v9 ((fun l r => Host.dotGeneral dot_S4x2_S8x2x256x256_S4x8x256x256_1_1_0_023_n_n none l r) : (⟨S4x2, .f32⟩ : BufTy).Contents (Elt F) → (⟨S8x2x256x256, .f32⟩ : BufTy).Contents (Elt F) → (⟨S4x8x256x256, .f32⟩ : BufTy).Contents (Elt F)),
    unary main_v9 main_v10 ((transpose S8x4x256x256 [1, 0, 2, 3] · transposes_S4x8x256x256_S8x4x256x256_1_0_2_3) : (⟨S4x8x256x256, .f32⟩ : BufTy).Contents (Elt F) → (⟨S8x4x256x256, .f32⟩ : BufTy).Contents (Elt F)),
    binary main_v5 main_v10 main_v11 (addf : (⟨S8x4x256x256, .f32⟩ : BufTy).Contents (Elt F) → (⟨S8x4x256x256, .f32⟩ : BufTy).Contents (Elt F) → (⟨S8x4x256x256, .f32⟩ : BufTy).Contents (Elt F)),
    unary main_v0 main_v12 ((Host.slice S8x2x256x256 ![0, 0, 0, 2] ![1, 1, 2, 2] · slicesBy_S8x2x514x514_S8x2x256x256_0s1_0s1_0s2_2s2) : (⟨S8x2x514x514, .f32⟩ : BufTy).Contents (Elt F) → (⟨S8x2x256x256, .f32⟩ : BufTy).Contents (Elt F)),
    unary main_arg1 main_v13 ((extractStridedSlice S4x2x1x1 ![0, 0, 0, 2] · slices_S4x2x4x4_S4x2x1x1_0_0_0_2) : (⟨S4x2x4x4, .f32⟩ : BufTy).Contents (Elt F) → (⟨S4x2x1x1, .f32⟩ : BufTy).Contents (Elt F)),
    reshape main_v13 main_v14 (rfl : (.f32 : EltTy) = .f32) shapeCasts_S4x2x1x1_S4x2,
    binary main_v14 main_v12 main_v15 ((fun l r => Host.dotGeneral dot_S4x2_S8x2x256x256_S4x8x256x256_1_1_0_023_n_n none l r) : (⟨S4x2, .f32⟩ : BufTy).Contents (Elt F) → (⟨S8x2x256x256, .f32⟩ : BufTy).Contents (Elt F) → (⟨S4x8x256x256, .f32⟩ : BufTy).Contents (Elt F)),
    unary main_v15 main_v16 ((transpose S8x4x256x256 [1, 0, 2, 3] · transposes_S4x8x256x256_S8x4x256x256_1_0_2_3) : (⟨S4x8x256x256, .f32⟩ : BufTy).Contents (Elt F) → (⟨S8x4x256x256, .f32⟩ : BufTy).Contents (Elt F)),
    binary main_v11 main_v16 main_v17 (addf : (⟨S8x4x256x256, .f32⟩ : BufTy).Contents (Elt F) → (⟨S8x4x256x256, .f32⟩ : BufTy).Contents (Elt F) → (⟨S8x4x256x256, .f32⟩ : BufTy).Contents (Elt F)),
    unary main_v0 main_v18 ((Host.slice S8x2x256x256 ![0, 0, 0, 3] ![1, 1, 2, 2] · slicesBy_S8x2x514x514_S8x2x256x256_0s1_0s1_0s2_3s2) : (⟨S8x2x514x514, .f32⟩ : BufTy).Contents (Elt F) → (⟨S8x2x256x256, .f32⟩ : BufTy).Contents (Elt F)),
    unary main_arg1 main_v19 ((extractStridedSlice S4x2x1x1 ![0, 0, 0, 3] · slices_S4x2x4x4_S4x2x1x1_0_0_0_3) : (⟨S4x2x4x4, .f32⟩ : BufTy).Contents (Elt F) → (⟨S4x2x1x1, .f32⟩ : BufTy).Contents (Elt F)),
    reshape main_v19 main_v20 (rfl : (.f32 : EltTy) = .f32) shapeCasts_S4x2x1x1_S4x2,
    binary main_v20 main_v18 main_v21 ((fun l r => Host.dotGeneral dot_S4x2_S8x2x256x256_S4x8x256x256_1_1_0_023_n_n none l r) : (⟨S4x2, .f32⟩ : BufTy).Contents (Elt F) → (⟨S8x2x256x256, .f32⟩ : BufTy).Contents (Elt F) → (⟨S4x8x256x256, .f32⟩ : BufTy).Contents (Elt F)),
    unary main_v21 main_v22 ((transpose S8x4x256x256 [1, 0, 2, 3] · transposes_S4x8x256x256_S8x4x256x256_1_0_2_3) : (⟨S4x8x256x256, .f32⟩ : BufTy).Contents (Elt F) → (⟨S8x4x256x256, .f32⟩ : BufTy).Contents (Elt F)),
    binary main_v17 main_v22 main_v23 (addf : (⟨S8x4x256x256, .f32⟩ : BufTy).Contents (Elt F) → (⟨S8x4x256x256, .f32⟩ : BufTy).Contents (Elt F) → (⟨S8x4x256x256, .f32⟩ : BufTy).Contents (Elt F)) ]

/-- Operations 27 … 50: the first convolution, kernel row 1. -/
abbrev rowB : List (HloOp τ sig (Elt F)) :=
  [ unary main_v0 main_v24 ((Host.slice S8x2x256x256 ![0, 0, 1, 0] ![1, 1, 2, 2] · slicesBy_S8x2x514x514_S8x2x256x256_0s1_0s1_1s2_0s2) : (⟨S8x2x514x514, .f32⟩ : BufTy).Contents (Elt F) → (⟨S8x2x256x256, .f32⟩ : BufTy).Contents (Elt F)),
    unary main_arg1 main_v25 ((extractStridedSlice S4x2x1x1 ![0, 0, 1, 0] · slices_S4x2x4x4_S4x2x1x1_0_0_1_0) : (⟨S4x2x4x4, .f32⟩ : BufTy).Contents (Elt F) → (⟨S4x2x1x1, .f32⟩ : BufTy).Contents (Elt F)),
    reshape main_v25 main_v26 (rfl : (.f32 : EltTy) = .f32) shapeCasts_S4x2x1x1_S4x2,
    binary main_v26 main_v24 main_v27 ((fun l r => Host.dotGeneral dot_S4x2_S8x2x256x256_S4x8x256x256_1_1_0_023_n_n none l r) : (⟨S4x2, .f32⟩ : BufTy).Contents (Elt F) → (⟨S8x2x256x256, .f32⟩ : BufTy).Contents (Elt F) → (⟨S4x8x256x256, .f32⟩ : BufTy).Contents (Elt F)),
    unary main_v27 main_v28 ((transpose S8x4x256x256 [1, 0, 2, 3] · transposes_S4x8x256x256_S8x4x256x256_1_0_2_3) : (⟨S4x8x256x256, .f32⟩ : BufTy).Contents (Elt F) → (⟨S8x4x256x256, .f32⟩ : BufTy).Contents (Elt F)),
    binary main_v23 main_v28 main_v29 (addf : (⟨S8x4x256x256, .f32⟩ : BufTy).Contents (Elt F) → (⟨S8x4x256x256, .f32⟩ : BufTy).Contents (Elt F) → (⟨S8x4x256x256, .f32⟩ : BufTy).Contents (Elt F)),
    unary main_v0 main_v30 ((Host.slice S8x2x256x256 ![0, 0, 1, 1] ![1, 1, 2, 2] · slicesBy_S8x2x514x514_S8x2x256x256_0s1_0s1_1s2_1s2) : (⟨S8x2x514x514, .f32⟩ : BufTy).Contents (Elt F) → (⟨S8x2x256x256, .f32⟩ : BufTy).Contents (Elt F)),
    unary main_arg1 main_v31 ((extractStridedSlice S4x2x1x1 ![0, 0, 1, 1] · slices_S4x2x4x4_S4x2x1x1_0_0_1_1) : (⟨S4x2x4x4, .f32⟩ : BufTy).Contents (Elt F) → (⟨S4x2x1x1, .f32⟩ : BufTy).Contents (Elt F)),
    reshape main_v31 main_v32 (rfl : (.f32 : EltTy) = .f32) shapeCasts_S4x2x1x1_S4x2,
    binary main_v32 main_v30 main_v33 ((fun l r => Host.dotGeneral dot_S4x2_S8x2x256x256_S4x8x256x256_1_1_0_023_n_n none l r) : (⟨S4x2, .f32⟩ : BufTy).Contents (Elt F) → (⟨S8x2x256x256, .f32⟩ : BufTy).Contents (Elt F) → (⟨S4x8x256x256, .f32⟩ : BufTy).Contents (Elt F)),
    unary main_v33 main_v34 ((transpose S8x4x256x256 [1, 0, 2, 3] · transposes_S4x8x256x256_S8x4x256x256_1_0_2_3) : (⟨S4x8x256x256, .f32⟩ : BufTy).Contents (Elt F) → (⟨S8x4x256x256, .f32⟩ : BufTy).Contents (Elt F)),
    binary main_v29 main_v34 main_v35 (addf : (⟨S8x4x256x256, .f32⟩ : BufTy).Contents (Elt F) → (⟨S8x4x256x256, .f32⟩ : BufTy).Contents (Elt F) → (⟨S8x4x256x256, .f32⟩ : BufTy).Contents (Elt F)),
    unary main_v0 main_v36 ((Host.slice S8x2x256x256 ![0, 0, 1, 2] ![1, 1, 2, 2] · slicesBy_S8x2x514x514_S8x2x256x256_0s1_0s1_1s2_2s2) : (⟨S8x2x514x514, .f32⟩ : BufTy).Contents (Elt F) → (⟨S8x2x256x256, .f32⟩ : BufTy).Contents (Elt F)),
    unary main_arg1 main_v37 ((extractStridedSlice S4x2x1x1 ![0, 0, 1, 2] · slices_S4x2x4x4_S4x2x1x1_0_0_1_2) : (⟨S4x2x4x4, .f32⟩ : BufTy).Contents (Elt F) → (⟨S4x2x1x1, .f32⟩ : BufTy).Contents (Elt F)),
    reshape main_v37 main_v38 (rfl : (.f32 : EltTy) = .f32) shapeCasts_S4x2x1x1_S4x2,
    binary main_v38 main_v36 main_v39 ((fun l r => Host.dotGeneral dot_S4x2_S8x2x256x256_S4x8x256x256_1_1_0_023_n_n none l r) : (⟨S4x2, .f32⟩ : BufTy).Contents (Elt F) → (⟨S8x2x256x256, .f32⟩ : BufTy).Contents (Elt F) → (⟨S4x8x256x256, .f32⟩ : BufTy).Contents (Elt F)),
    unary main_v39 main_v40 ((transpose S8x4x256x256 [1, 0, 2, 3] · transposes_S4x8x256x256_S8x4x256x256_1_0_2_3) : (⟨S4x8x256x256, .f32⟩ : BufTy).Contents (Elt F) → (⟨S8x4x256x256, .f32⟩ : BufTy).Contents (Elt F)),
    binary main_v35 main_v40 main_v41 (addf : (⟨S8x4x256x256, .f32⟩ : BufTy).Contents (Elt F) → (⟨S8x4x256x256, .f32⟩ : BufTy).Contents (Elt F) → (⟨S8x4x256x256, .f32⟩ : BufTy).Contents (Elt F)),
    unary main_v0 main_v42 ((Host.slice S8x2x256x256 ![0, 0, 1, 3] ![1, 1, 2, 2] · slicesBy_S8x2x514x514_S8x2x256x256_0s1_0s1_1s2_3s2) : (⟨S8x2x514x514, .f32⟩ : BufTy).Contents (Elt F) → (⟨S8x2x256x256, .f32⟩ : BufTy).Contents (Elt F)),
    unary main_arg1 main_v43 ((extractStridedSlice S4x2x1x1 ![0, 0, 1, 3] · slices_S4x2x4x4_S4x2x1x1_0_0_1_3) : (⟨S4x2x4x4, .f32⟩ : BufTy).Contents (Elt F) → (⟨S4x2x1x1, .f32⟩ : BufTy).Contents (Elt F)),
    reshape main_v43 main_v44 (rfl : (.f32 : EltTy) = .f32) shapeCasts_S4x2x1x1_S4x2,
    binary main_v44 main_v42 main_v45 ((fun l r => Host.dotGeneral dot_S4x2_S8x2x256x256_S4x8x256x256_1_1_0_023_n_n none l r) : (⟨S4x2, .f32⟩ : BufTy).Contents (Elt F) → (⟨S8x2x256x256, .f32⟩ : BufTy).Contents (Elt F) → (⟨S4x8x256x256, .f32⟩ : BufTy).Contents (Elt F)),
    unary main_v45 main_v46 ((transpose S8x4x256x256 [1, 0, 2, 3] · transposes_S4x8x256x256_S8x4x256x256_1_0_2_3) : (⟨S4x8x256x256, .f32⟩ : BufTy).Contents (Elt F) → (⟨S8x4x256x256, .f32⟩ : BufTy).Contents (Elt F)),
    binary main_v41 main_v46 main_v47 (addf : (⟨S8x4x256x256, .f32⟩ : BufTy).Contents (Elt F) → (⟨S8x4x256x256, .f32⟩ : BufTy).Contents (Elt F) → (⟨S8x4x256x256, .f32⟩ : BufTy).Contents (Elt F)) ]

/-- Operations 51 … 74: the first convolution, kernel row 2. -/
abbrev rowC : List (HloOp τ sig (Elt F)) :=
  [ unary main_v0 main_v48 ((Host.slice S8x2x256x256 ![0, 0, 2, 0] ![1, 1, 2, 2] · slicesBy_S8x2x514x514_S8x2x256x256_0s1_0s1_2s2_0s2) : (⟨S8x2x514x514, .f32⟩ : BufTy).Contents (Elt F) → (⟨S8x2x256x256, .f32⟩ : BufTy).Contents (Elt F)),
    unary main_arg1 main_v49 ((extractStridedSlice S4x2x1x1 ![0, 0, 2, 0] · slices_S4x2x4x4_S4x2x1x1_0_0_2_0) : (⟨S4x2x4x4, .f32⟩ : BufTy).Contents (Elt F) → (⟨S4x2x1x1, .f32⟩ : BufTy).Contents (Elt F)),
    reshape main_v49 main_v50 (rfl : (.f32 : EltTy) = .f32) shapeCasts_S4x2x1x1_S4x2,
    binary main_v50 main_v48 main_v51 ((fun l r => Host.dotGeneral dot_S4x2_S8x2x256x256_S4x8x256x256_1_1_0_023_n_n none l r) : (⟨S4x2, .f32⟩ : BufTy).Contents (Elt F) → (⟨S8x2x256x256, .f32⟩ : BufTy).Contents (Elt F) → (⟨S4x8x256x256, .f32⟩ : BufTy).Contents (Elt F)),
    unary main_v51 main_v52 ((transpose S8x4x256x256 [1, 0, 2, 3] · transposes_S4x8x256x256_S8x4x256x256_1_0_2_3) : (⟨S4x8x256x256, .f32⟩ : BufTy).Contents (Elt F) → (⟨S8x4x256x256, .f32⟩ : BufTy).Contents (Elt F)),
    binary main_v47 main_v52 main_v53 (addf : (⟨S8x4x256x256, .f32⟩ : BufTy).Contents (Elt F) → (⟨S8x4x256x256, .f32⟩ : BufTy).Contents (Elt F) → (⟨S8x4x256x256, .f32⟩ : BufTy).Contents (Elt F)),
    unary main_v0 main_v54 ((Host.slice S8x2x256x256 ![0, 0, 2, 1] ![1, 1, 2, 2] · slicesBy_S8x2x514x514_S8x2x256x256_0s1_0s1_2s2_1s2) : (⟨S8x2x514x514, .f32⟩ : BufTy).Contents (Elt F) → (⟨S8x2x256x256, .f32⟩ : BufTy).Contents (Elt F)),
    unary main_arg1 main_v55 ((extractStridedSlice S4x2x1x1 ![0, 0, 2, 1] · slices_S4x2x4x4_S4x2x1x1_0_0_2_1) : (⟨S4x2x4x4, .f32⟩ : BufTy).Contents (Elt F) → (⟨S4x2x1x1, .f32⟩ : BufTy).Contents (Elt F)),
    reshape main_v55 main_v56 (rfl : (.f32 : EltTy) = .f32) shapeCasts_S4x2x1x1_S4x2,
    binary main_v56 main_v54 main_v57 ((fun l r => Host.dotGeneral dot_S4x2_S8x2x256x256_S4x8x256x256_1_1_0_023_n_n none l r) : (⟨S4x2, .f32⟩ : BufTy).Contents (Elt F) → (⟨S8x2x256x256, .f32⟩ : BufTy).Contents (Elt F) → (⟨S4x8x256x256, .f32⟩ : BufTy).Contents (Elt F)),
    unary main_v57 main_v58 ((transpose S8x4x256x256 [1, 0, 2, 3] · transposes_S4x8x256x256_S8x4x256x256_1_0_2_3) : (⟨S4x8x256x256, .f32⟩ : BufTy).Contents (Elt F) → (⟨S8x4x256x256, .f32⟩ : BufTy).Contents (Elt F)),
    binary main_v53 main_v58 main_v59 (addf : (⟨S8x4x256x256, .f32⟩ : BufTy).Contents (Elt F) → (⟨S8x4x256x256, .f32⟩ : BufTy).Contents (Elt F) → (⟨S8x4x256x256, .f32⟩ : BufTy).Contents (Elt F)),
    unary main_v0 main_v60 ((Host.slice S8x2x256x256 ![0, 0, 2, 2] ![1, 1, 2, 2] · slicesBy_S8x2x514x514_S8x2x256x256_0s1_0s1_2s2_2s2) : (⟨S8x2x514x514, .f32⟩ : BufTy).Contents (Elt F) → (⟨S8x2x256x256, .f32⟩ : BufTy).Contents (Elt F)),
    unary main_arg1 main_v61 ((extractStridedSlice S4x2x1x1 ![0, 0, 2, 2] · slices_S4x2x4x4_S4x2x1x1_0_0_2_2) : (⟨S4x2x4x4, .f32⟩ : BufTy).Contents (Elt F) → (⟨S4x2x1x1, .f32⟩ : BufTy).Contents (Elt F)),
    reshape main_v61 main_v62 (rfl : (.f32 : EltTy) = .f32) shapeCasts_S4x2x1x1_S4x2,
    binary main_v62 main_v60 main_v63 ((fun l r => Host.dotGeneral dot_S4x2_S8x2x256x256_S4x8x256x256_1_1_0_023_n_n none l r) : (⟨S4x2, .f32⟩ : BufTy).Contents (Elt F) → (⟨S8x2x256x256, .f32⟩ : BufTy).Contents (Elt F) → (⟨S4x8x256x256, .f32⟩ : BufTy).Contents (Elt F)),
    unary main_v63 main_v64 ((transpose S8x4x256x256 [1, 0, 2, 3] · transposes_S4x8x256x256_S8x4x256x256_1_0_2_3) : (⟨S4x8x256x256, .f32⟩ : BufTy).Contents (Elt F) → (⟨S8x4x256x256, .f32⟩ : BufTy).Contents (Elt F)),
    binary main_v59 main_v64 main_v65 (addf : (⟨S8x4x256x256, .f32⟩ : BufTy).Contents (Elt F) → (⟨S8x4x256x256, .f32⟩ : BufTy).Contents (Elt F) → (⟨S8x4x256x256, .f32⟩ : BufTy).Contents (Elt F)),
    unary main_v0 main_v66 ((Host.slice S8x2x256x256 ![0, 0, 2, 3] ![1, 1, 2, 2] · slicesBy_S8x2x514x514_S8x2x256x256_0s1_0s1_2s2_3s2) : (⟨S8x2x514x514, .f32⟩ : BufTy).Contents (Elt F) → (⟨S8x2x256x256, .f32⟩ : BufTy).Contents (Elt F)),
    unary main_arg1 main_v67 ((extractStridedSlice S4x2x1x1 ![0, 0, 2, 3] · slices_S4x2x4x4_S4x2x1x1_0_0_2_3) : (⟨S4x2x4x4, .f32⟩ : BufTy).Contents (Elt F) → (⟨S4x2x1x1, .f32⟩ : BufTy).Contents (Elt F)),
    reshape main_v67 main_v68 (rfl : (.f32 : EltTy) = .f32) shapeCasts_S4x2x1x1_S4x2,
    binary main_v68 main_v66 main_v69 ((fun l r => Host.dotGeneral dot_S4x2_S8x2x256x256_S4x8x256x256_1_1_0_023_n_n none l r) : (⟨S4x2, .f32⟩ : BufTy).Contents (Elt F) → (⟨S8x2x256x256, .f32⟩ : BufTy).Contents (Elt F) → (⟨S4x8x256x256, .f32⟩ : BufTy).Contents (Elt F)),
    unary main_v69 main_v70 ((transpose S8x4x256x256 [1, 0, 2, 3] · transposes_S4x8x256x256_S8x4x256x256_1_0_2_3) : (⟨S4x8x256x256, .f32⟩ : BufTy).Contents (Elt F) → (⟨S8x4x256x256, .f32⟩ : BufTy).Contents (Elt F)),
    binary main_v65 main_v70 main_v71 (addf : (⟨S8x4x256x256, .f32⟩ : BufTy).Contents (Elt F) → (⟨S8x4x256x256, .f32⟩ : BufTy).Contents (Elt F) → (⟨S8x4x256x256, .f32⟩ : BufTy).Contents (Elt F)) ]

/-- Operations 75 … 98: the first convolution, kernel row 3. -/
abbrev rowD : List (HloOp τ sig (Elt F)) :=
  [ unary main_v0 main_v72 ((Host.slice S8x2x256x256 ![0, 0, 3, 0] ![1, 1, 2, 2] · slicesBy_S8x2x514x514_S8x2x256x256_0s1_0s1_3s2_0s2) : (⟨S8x2x514x514, .f32⟩ : BufTy).Contents (Elt F) → (⟨S8x2x256x256, .f32⟩ : BufTy).Contents (Elt F)),
    unary main_arg1 main_v73 ((extractStridedSlice S4x2x1x1 ![0, 0, 3, 0] · slices_S4x2x4x4_S4x2x1x1_0_0_3_0) : (⟨S4x2x4x4, .f32⟩ : BufTy).Contents (Elt F) → (⟨S4x2x1x1, .f32⟩ : BufTy).Contents (Elt F)),
    reshape main_v73 main_v74 (rfl : (.f32 : EltTy) = .f32) shapeCasts_S4x2x1x1_S4x2,
    binary main_v74 main_v72 main_v75 ((fun l r => Host.dotGeneral dot_S4x2_S8x2x256x256_S4x8x256x256_1_1_0_023_n_n none l r) : (⟨S4x2, .f32⟩ : BufTy).Contents (Elt F) → (⟨S8x2x256x256, .f32⟩ : BufTy).Contents (Elt F) → (⟨S4x8x256x256, .f32⟩ : BufTy).Contents (Elt F)),
    unary main_v75 main_v76 ((transpose S8x4x256x256 [1, 0, 2, 3] · transposes_S4x8x256x256_S8x4x256x256_1_0_2_3) : (⟨S4x8x256x256, .f32⟩ : BufTy).Contents (Elt F) → (⟨S8x4x256x256, .f32⟩ : BufTy).Contents (Elt F)),
    binary main_v71 main_v76 main_v77 (addf : (⟨S8x4x256x256, .f32⟩ : BufTy).Contents (Elt F) → (⟨S8x4x256x256, .f32⟩ : BufTy).Contents (Elt F) → (⟨S8x4x256x256, .f32⟩ : BufTy).Contents (Elt F)),
    unary main_v0 main_v78 ((Host.slice S8x2x256x256 ![0, 0, 3, 1] ![1, 1, 2, 2] · slicesBy_S8x2x514x514_S8x2x256x256_0s1_0s1_3s2_1s2) : (⟨S8x2x514x514, .f32⟩ : BufTy).Contents (Elt F) → (⟨S8x2x256x256, .f32⟩ : BufTy).Contents (Elt F)),
    unary main_arg1 main_v79 ((extractStridedSlice S4x2x1x1 ![0, 0, 3, 1] · slices_S4x2x4x4_S4x2x1x1_0_0_3_1) : (⟨S4x2x4x4, .f32⟩ : BufTy).Contents (Elt F) → (⟨S4x2x1x1, .f32⟩ : BufTy).Contents (Elt F)),
    reshape main_v79 main_v80 (rfl : (.f32 : EltTy) = .f32) shapeCasts_S4x2x1x1_S4x2,
    binary main_v80 main_v78 main_v81 ((fun l r => Host.dotGeneral dot_S4x2_S8x2x256x256_S4x8x256x256_1_1_0_023_n_n none l r) : (⟨S4x2, .f32⟩ : BufTy).Contents (Elt F) → (⟨S8x2x256x256, .f32⟩ : BufTy).Contents (Elt F) → (⟨S4x8x256x256, .f32⟩ : BufTy).Contents (Elt F)),
    unary main_v81 main_v82 ((transpose S8x4x256x256 [1, 0, 2, 3] · transposes_S4x8x256x256_S8x4x256x256_1_0_2_3) : (⟨S4x8x256x256, .f32⟩ : BufTy).Contents (Elt F) → (⟨S8x4x256x256, .f32⟩ : BufTy).Contents (Elt F)),
    binary main_v77 main_v82 main_v83 (addf : (⟨S8x4x256x256, .f32⟩ : BufTy).Contents (Elt F) → (⟨S8x4x256x256, .f32⟩ : BufTy).Contents (Elt F) → (⟨S8x4x256x256, .f32⟩ : BufTy).Contents (Elt F)),
    unary main_v0 main_v84 ((Host.slice S8x2x256x256 ![0, 0, 3, 2] ![1, 1, 2, 2] · slicesBy_S8x2x514x514_S8x2x256x256_0s1_0s1_3s2_2s2) : (⟨S8x2x514x514, .f32⟩ : BufTy).Contents (Elt F) → (⟨S8x2x256x256, .f32⟩ : BufTy).Contents (Elt F)),
    unary main_arg1 main_v85 ((extractStridedSlice S4x2x1x1 ![0, 0, 3, 2] · slices_S4x2x4x4_S4x2x1x1_0_0_3_2) : (⟨S4x2x4x4, .f32⟩ : BufTy).Contents (Elt F) → (⟨S4x2x1x1, .f32⟩ : BufTy).Contents (Elt F)),
    reshape main_v85 main_v86 (rfl : (.f32 : EltTy) = .f32) shapeCasts_S4x2x1x1_S4x2,
    binary main_v86 main_v84 main_v87 ((fun l r => Host.dotGeneral dot_S4x2_S8x2x256x256_S4x8x256x256_1_1_0_023_n_n none l r) : (⟨S4x2, .f32⟩ : BufTy).Contents (Elt F) → (⟨S8x2x256x256, .f32⟩ : BufTy).Contents (Elt F) → (⟨S4x8x256x256, .f32⟩ : BufTy).Contents (Elt F)),
    unary main_v87 main_v88 ((transpose S8x4x256x256 [1, 0, 2, 3] · transposes_S4x8x256x256_S8x4x256x256_1_0_2_3) : (⟨S4x8x256x256, .f32⟩ : BufTy).Contents (Elt F) → (⟨S8x4x256x256, .f32⟩ : BufTy).Contents (Elt F)),
    binary main_v83 main_v88 main_v89 (addf : (⟨S8x4x256x256, .f32⟩ : BufTy).Contents (Elt F) → (⟨S8x4x256x256, .f32⟩ : BufTy).Contents (Elt F) → (⟨S8x4x256x256, .f32⟩ : BufTy).Contents (Elt F)),
    unary main_v0 main_v90 ((Host.slice S8x2x256x256 ![0, 0, 3, 3] ![1, 1, 2, 2] · slicesBy_S8x2x514x514_S8x2x256x256_0s1_0s1_3s2_3s2) : (⟨S8x2x514x514, .f32⟩ : BufTy).Contents (Elt F) → (⟨S8x2x256x256, .f32⟩ : BufTy).Contents (Elt F)),
    unary main_arg1 main_v91 ((extractStridedSlice S4x2x1x1 ![0, 0, 3, 3] · slices_S4x2x4x4_S4x2x1x1_0_0_3_3) : (⟨S4x2x4x4, .f32⟩ : BufTy).Contents (Elt F) → (⟨S4x2x1x1, .f32⟩ : BufTy).Contents (Elt F)),
    reshape main_v91 main_v92 (rfl : (.f32 : EltTy) = .f32) shapeCasts_S4x2x1x1_S4x2,
    binary main_v92 main_v90 main_v93 ((fun l r => Host.dotGeneral dot_S4x2_S8x2x256x256_S4x8x256x256_1_1_0_023_n_n none l r) : (⟨S4x2, .f32⟩ : BufTy).Contents (Elt F) → (⟨S8x2x256x256, .f32⟩ : BufTy).Contents (Elt F) → (⟨S4x8x256x256, .f32⟩ : BufTy).Contents (Elt F)),
    unary main_v93 main_v94 ((transpose S8x4x256x256 [1, 0, 2, 3] · transposes_S4x8x256x256_S8x4x256x256_1_0_2_3) : (⟨S4x8x256x256, .f32⟩ : BufTy).Contents (Elt F) → (⟨S8x4x256x256, .f32⟩ : BufTy).Contents (Elt F)),
    binary main_v89 main_v94 main_v95 (addf : (⟨S8x4x256x256, .f32⟩ : BufTy).Contents (Elt F) → (⟨S8x4x256x256, .f32⟩ : BufTy).Contents (Elt F) → (⟨S8x4x256x256, .f32⟩ : BufTy).Contents (Elt F)) ]

/-- Operations 99 … 120: bias, normalisation and the positive part. -/
abbrev norm1 : List (HloOp τ sig (Elt F)) :=
  [ unary main_arg2 main_v96 (broadcastInDim S1x4x1x1 ![1] bcast_S4_S1x4x1x1_1 : (⟨S4, .f32⟩ : BufTy).Contents (Elt F) → (⟨S1x4x1x1, .f32⟩ : BufTy).Contents (Elt F)),
    unary main_v96 main_v97 (broadcastInDim S8x4x256x256 ![0, 1, 2, 3] bcast_S1x4x1x1_S8x4x256x256_0_1_2_3 : (⟨S1x4x1x1, .f32⟩ : BufTy).Contents (Elt F) → (⟨S8x4x256x256, .f32⟩ : BufTy).Contents (Elt F)),
    binary main_v95 main_v97 main_v98 (addf : (⟨S8x4x256x256, .f32⟩ : BufTy).Contents (Elt F) → (⟨S8x4x256x256, .f32⟩ : BufTy).Contents (Elt F) → (⟨S8x4x256x256, .f32⟩ : BufTy).Contents (Elt F)),
    unary main_arg5 main_v99 (broadcastInDim S1x4x1x1 ![1] bcast_S4_S1x4x1x1_1 : (⟨S4, .f32⟩ : BufTy).Contents (Elt F) → (⟨S1x4x1x1, .f32⟩ : BufTy).Contents (Elt F)),
    unary main_v99 main_v100 (broadcastInDim S8x4x256x256 ![0, 1, 2, 3] bcast_S1x4x1x1_S8x4x256x256_0_1_2_3 : (⟨S1x4x1x1, .f32⟩ : BufTy).Contents (Elt F) → (⟨S8x4x256x256, .f32⟩ : BufTy).Contents (Elt F)),
    binary main_v98 main_v100 main_v101 (subf : (⟨S8x4x256x256, .f32⟩ : BufTy).Contents (Elt F) → (⟨S8x4x256x256, .f32⟩ : BufTy).Contents (Elt F) → (⟨S8x4x256x256, .f32⟩ : BufTy).Contents (Elt F)),
    unary main_arg6 main_v102 (broadcastInDim S1x4x1x1 ![1] bcast_S4_S1x4x1x1_1 : (⟨S4, .f32⟩ : BufTy).Contents (Elt F) → (⟨S1x4x1x1, .f32⟩ : BufTy).Contents (Elt F)),
    nullary main_cst (constant S_ .f32 0x3727C5AC#32),
    unary main_cst main_v103 (broadcastInDim S1x4x1x1 ![] bcast_S_S1x4x1x1 : (⟨S_, .f32⟩ : BufTy).Contents (Elt F) → (⟨S1x4x1x1, .f32⟩ : BufTy).Contents (Elt F)),
    binary main_v102 main_v103 main_v104 (addf : (⟨S1x4x1x1, .f32⟩ : BufTy).Contents (Elt F) → (⟨S1x4x1x1, .f32⟩ : BufTy).Contents (Elt F) → (⟨S1x4x1x1, .f32⟩ : BufTy).Contents (Elt F)),
    unary main_v104 main_v105 (Host.sqrt : (⟨S1x4x1x1, .f32⟩ : BufTy).Contents (Elt F) → (⟨S1x4x1x1, .f32⟩ : BufTy).Contents (Elt F)),
    unary main_v105 main_v106 (broadcastInDim S8x4x256x256 ![0, 1, 2, 3] bcast_S1x4x1x1_S8x4x256x256_0_1_2_3 : (⟨S1x4x1x1, .f32⟩ : BufTy).Contents (Elt F) → (⟨S8x4x256x256, .f32⟩ : BufTy).Contents (Elt F)),
    binary main_v101 main_v106 main_v107 (Host.divf : (⟨S8x4x256x256, .f32⟩ : BufTy).Contents (Elt F) → (⟨S8x4x256x256, .f32⟩ : BufTy).Contents (Elt F) → (⟨S8x4x256x256, .f32⟩ : BufTy).Contents (Elt F)),
    unary main_arg3 main_v108 (broadcastInDim S1x4x1x1 ![1] bcast_S4_S1x4x1x1_1 : (⟨S4, .f32⟩ : BufTy).Contents (Elt F) → (⟨S1x4x1x1, .f32⟩ : BufTy).Contents (Elt F)),
    unary main_v108 main_v109 (broadcastInDim S8x4x256x256 ![0, 1, 2, 3] bcast_S1x4x1x1_S8x4x256x256_0_1_2_3 : (⟨S1x4x1x1, .f32⟩ : BufTy).Contents (Elt F) → (⟨S8x4x256x256, .f32⟩ : BufTy).Contents (Elt F)),
    binary main_v107 main_v109 main_v110 (mulf : (⟨S8x4x256x256, .f32⟩ : BufTy).Contents (Elt F) → (⟨S8x4x256x256, .f32⟩ : BufTy).Contents (Elt F) → (⟨S8x4x256x256, .f32⟩ : BufTy).Contents (Elt F)),
    unary main_arg4 main_v111 (broadcastInDim S1x4x1x1 ![1] bcast_S4_S1x4x1x1_1 : (⟨S4, .f32⟩ : BufTy).Contents (Elt F) → (⟨S1x4x1x1, .f32⟩ : BufTy).Contents (Elt F)),
    unary main_v111 main_v112 (broadcastInDim S8x4x256x256 ![0, 1, 2, 3] bcast_S1x4x1x1_S8x4x256x256_0_1_2_3 : (⟨S1x4x1x1, .f32⟩ : BufTy).Contents (Elt F) → (⟨S8x4x256x256, .f32⟩ : BufTy).Contents (Elt F)),
    binary main_v110 main_v112 main_v113 (addf : (⟨S8x4x256x256, .f32⟩ : BufTy).Contents (Elt F) → (⟨S8x4x256x256, .f32⟩ : BufTy).Contents (Elt F) → (⟨S8x4x256x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8x4x256x256, .f32⟩) main_call1_v0) (broadcastInDim S8x4x256x256 ![] bcast_S_S8x4x256x256),
    TRef.binary (TRef.of (T := ⟨S8x4x256x256, .f32⟩) main_v113) (TRef.of (T := ⟨S8x4x256x256, .f32⟩) main_call1_v0) (TRef.of (T := ⟨S8x4x256x256, .f32⟩) main_v114) maximumf ]

/-- Operations 121 … 123: the middle array padded by one on each side. -/
abbrev padMid : List (HloOp τ sig (Elt F)) :=
  [ nullary main_c_0 (constantI S_ 32 0#32),
    TRef.unary (TRef.of (T := ⟨S_, .i32⟩) main_c_0) (TRef.of (T := ⟨S_, .f32⟩) main_call2_v0) (sitofp .f32),
    TRef.binary (TRef.of (T := ⟨S8x4x256x256, .f32⟩) main_v114) (TRef.of (T := ⟨S_, .f32⟩) main_call2_v0) (TRef.of (T := ⟨S8x4x258x258, .f32⟩) main_v115) (fun x v => pad S8x4x258x258 ![0, 0, 1, 1] ![0, 0, 1, 1] ![0, 0, 0, 0] x v pads_S8x4x256x256_S8x4x258x258_000_000_110_110 h_S_) ]

/-- Operations 124 … 140: the second convolution, kernel row 0. -/
abbrev rowE : List (HloOp τ sig (Elt F)) :=
  [ unary main_v115 main_v116 ((extractStridedSlice S8x4x256x256 ![0, 0, 0, 0] · slices_S8x4x258x258_S8x4x256x256_0_0_0_0) : (⟨S8x4x258x258, .f32⟩ : BufTy).Contents (Elt F) → (⟨S8x4x256x256, .f32⟩ : BufTy).Contents (Elt F)),
    unary main_arg7 main_v117 ((extractStridedSlice S4x4x1x1 ![0, 0, 0, 0] · slices_S4x4x3x3_S4x4x1x1_0_0_0_0) : (⟨S4x4x3x3, .f32⟩ : BufTy).Contents (Elt F) → (⟨S4x4x1x1, .f32⟩ : BufTy).Contents (Elt F)),
    reshape main_v117 main_v118 (rfl : (.f32 : EltTy) = .f32) shapeCasts_S4x4x1x1_S4x4,
    binary main_v118 main_v116 main_v119 ((fun l r => Host.dotGeneral dot_S4x4_S8x4x256x256_S4x8x256x256_1_1_0_023_n_n none l r) : (⟨S4x4, .f32⟩ : BufTy).Contents (Elt F) → (⟨S8x4x256x256, .f32⟩ : BufTy).Contents (Elt F) → (⟨S4x8x256x256, .f32⟩ : BufTy).Contents (Elt F)),
    unary main_v119 main_v120 ((transpose S8x4x256x256 [1, 0, 2, 3] · transposes_S4x8x256x256_S8x4x256x256_1_0_2_3) : (⟨S4x8x256x256, .f32⟩ : BufTy).Contents (Elt F) → (⟨S8x4x256x256, .f32⟩ : BufTy).Contents (Elt F)),
    unary main_v115 main_v121 ((extractStridedSlice S8x4x256x256 ![0, 0, 0, 1] · slices_S8x4x258x258_S8x4x256x256_0_0_0_1) : (⟨S8x4x258x258, .f32⟩ : BufTy).Contents (Elt F) → (⟨S8x4x256x256, .f32⟩ : BufTy).Contents (Elt F)),
    unary main_arg7 main_v122 ((extractStridedSlice S4x4x1x1 ![0, 0, 0, 1] · slices_S4x4x3x3_S4x4x1x1_0_0_0_1) : (⟨S4x4x3x3, .f32⟩ : BufTy).Contents (Elt F) → (⟨S4x4x1x1, .f32⟩ : BufTy).Contents (Elt F)),
    reshape main_v122 main_v123 (rfl : (.f32 : EltTy) = .f32) shapeCasts_S4x4x1x1_S4x4,
    binary main_v123 main_v121 main_v124 ((fun l r => Host.dotGeneral dot_S4x4_S8x4x256x256_S4x8x256x256_1_1_0_023_n_n none l r) : (⟨S4x4, .f32⟩ : BufTy).Contents (Elt F) → (⟨S8x4x256x256, .f32⟩ : BufTy).Contents (Elt F) → (⟨S4x8x256x256, .f32⟩ : BufTy).Contents (Elt F)),
    unary main_v124 main_v125 ((transpose S8x4x256x256 [1, 0, 2, 3] · transposes_S4x8x256x256_S8x4x256x256_1_0_2_3) : (⟨S4x8x256x256, .f32⟩ : BufTy).Contents (Elt F) → (⟨S8x4x256x256, .f32⟩ : BufTy).Contents (Elt F)),
    binary main_v120 main_v125 main_v126 (addf : (⟨S8x4x256x256, .f32⟩ : BufTy).Contents (Elt F) → (⟨S8x4x256x256, .f32⟩ : BufTy).Contents (Elt F) → (⟨S8x4x256x256, .f32⟩ : BufTy).Contents (Elt F)),
    unary main_v115 main_v127 ((extractStridedSlice S8x4x256x256 ![0, 0, 0, 2] · slices_S8x4x258x258_S8x4x256x256_0_0_0_2) : (⟨S8x4x258x258, .f32⟩ : BufTy).Contents (Elt F) → (⟨S8x4x256x256, .f32⟩ : BufTy).Contents (Elt F)),
    unary main_arg7 main_v128 ((extractStridedSlice S4x4x1x1 ![0, 0, 0, 2] · slices_S4x4x3x3_S4x4x1x1_0_0_0_2) : (⟨S4x4x3x3, .f32⟩ : BufTy).Contents (Elt F) → (⟨S4x4x1x1, .f32⟩ : BufTy).Contents (Elt F)),
    reshape main_v128 main_v129 (rfl : (.f32 : EltTy) = .f32) shapeCasts_S4x4x1x1_S4x4,
    binary main_v129 main_v127 main_v130 ((fun l r => Host.dotGeneral dot_S4x4_S8x4x256x256_S4x8x256x256_1_1_0_023_n_n none l r) : (⟨S4x4, .f32⟩ : BufTy).Contents (Elt F) → (⟨S8x4x256x256, .f32⟩ : BufTy).Contents (Elt F) → (⟨S4x8x256x256, .f32⟩ : BufTy).Contents (Elt F)),
    unary main_v130 main_v131 ((transpose S8x4x256x256 [1, 0, 2, 3] · transposes_S4x8x256x256_S8x4x256x256_1_0_2_3) : (⟨S4x8x256x256, .f32⟩ : BufTy).Contents (Elt F) → (⟨S8x4x256x256, .f32⟩ : BufTy).Contents (Elt F)),
    binary main_v126 main_v131 main_v132 (addf : (⟨S8x4x256x256, .f32⟩ : BufTy).Contents (Elt F) → (⟨S8x4x256x256, .f32⟩ : BufTy).Contents (Elt F) → (⟨S8x4x256x256, .f32⟩ : BufTy).Contents (Elt F)) ]

/-- Operations 141 … 158: the second convolution, kernel row 1. -/
abbrev rowF : List (HloOp τ sig (Elt F)) :=
  [ unary main_v115 main_v133 ((extractStridedSlice S8x4x256x256 ![0, 0, 1, 0] · slices_S8x4x258x258_S8x4x256x256_0_0_1_0) : (⟨S8x4x258x258, .f32⟩ : BufTy).Contents (Elt F) → (⟨S8x4x256x256, .f32⟩ : BufTy).Contents (Elt F)),
    unary main_arg7 main_v134 ((extractStridedSlice S4x4x1x1 ![0, 0, 1, 0] · slices_S4x4x3x3_S4x4x1x1_0_0_1_0) : (⟨S4x4x3x3, .f32⟩ : BufTy).Contents (Elt F) → (⟨S4x4x1x1, .f32⟩ : BufTy).Contents (Elt F)),
    reshape main_v134 main_v135 (rfl : (.f32 : EltTy) = .f32) shapeCasts_S4x4x1x1_S4x4,
    binary main_v135 main_v133 main_v136 ((fun l r => Host.dotGeneral dot_S4x4_S8x4x256x256_S4x8x256x256_1_1_0_023_n_n none l r) : (⟨S4x4, .f32⟩ : BufTy).Contents (Elt F) → (⟨S8x4x256x256, .f32⟩ : BufTy).Contents (Elt F) → (⟨S4x8x256x256, .f32⟩ : BufTy).Contents (Elt F)),
    unary main_v136 main_v137 ((transpose S8x4x256x256 [1, 0, 2, 3] · transposes_S4x8x256x256_S8x4x256x256_1_0_2_3) : (⟨S4x8x256x256, .f32⟩ : BufTy).Contents (Elt F) → (⟨S8x4x256x256, .f32⟩ : BufTy).Contents (Elt F)),
    binary main_v132 main_v137 main_v138 (addf : (⟨S8x4x256x256, .f32⟩ : BufTy).Contents (Elt F) → (⟨S8x4x256x256, .f32⟩ : BufTy).Contents (Elt F) → (⟨S8x4x256x256, .f32⟩ : BufTy).Contents (Elt F)),
    unary main_v115 main_v139 ((extractStridedSlice S8x4x256x256 ![0, 0, 1, 1] · slices_S8x4x258x258_S8x4x256x256_0_0_1_1) : (⟨S8x4x258x258, .f32⟩ : BufTy).Contents (Elt F) → (⟨S8x4x256x256, .f32⟩ : BufTy).Contents (Elt F)),
    unary main_arg7 main_v140 ((extractStridedSlice S4x4x1x1 ![0, 0, 1, 1] · slices_S4x4x3x3_S4x4x1x1_0_0_1_1) : (⟨S4x4x3x3, .f32⟩ : BufTy).Contents (Elt F) → (⟨S4x4x1x1, .f32⟩ : BufTy).Contents (Elt F)),
    reshape main_v140 main_v141 (rfl : (.f32 : EltTy) = .f32) shapeCasts_S4x4x1x1_S4x4,
    binary main_v141 main_v139 main_v142 ((fun l r => Host.dotGeneral dot_S4x4_S8x4x256x256_S4x8x256x256_1_1_0_023_n_n none l r) : (⟨S4x4, .f32⟩ : BufTy).Contents (Elt F) → (⟨S8x4x256x256, .f32⟩ : BufTy).Contents (Elt F) → (⟨S4x8x256x256, .f32⟩ : BufTy).Contents (Elt F)),
    unary main_v142 main_v143 ((transpose S8x4x256x256 [1, 0, 2, 3] · transposes_S4x8x256x256_S8x4x256x256_1_0_2_3) : (⟨S4x8x256x256, .f32⟩ : BufTy).Contents (Elt F) → (⟨S8x4x256x256, .f32⟩ : BufTy).Contents (Elt F)),
    binary main_v138 main_v143 main_v144 (addf : (⟨S8x4x256x256, .f32⟩ : BufTy).Contents (Elt F) → (⟨S8x4x256x256, .f32⟩ : BufTy).Contents (Elt F) → (⟨S8x4x256x256, .f32⟩ : BufTy).Contents (Elt F)),
    unary main_v115 main_v145 ((extractStridedSlice S8x4x256x256 ![0, 0, 1, 2] · slices_S8x4x258x258_S8x4x256x256_0_0_1_2) : (⟨S8x4x258x258, .f32⟩ : BufTy).Contents (Elt F) → (⟨S8x4x256x256, .f32⟩ : BufTy).Contents (Elt F)),
    unary main_arg7 main_v146 ((extractStridedSlice S4x4x1x1 ![0, 0, 1, 2] · slices_S4x4x3x3_S4x4x1x1_0_0_1_2) : (⟨S4x4x3x3, .f32⟩ : BufTy).Contents (Elt F) → (⟨S4x4x1x1, .f32⟩ : BufTy).Contents (Elt F)),
    reshape main_v146 main_v147 (rfl : (.f32 : EltTy) = .f32) shapeCasts_S4x4x1x1_S4x4,
    binary main_v147 main_v145 main_v148 ((fun l r => Host.dotGeneral dot_S4x4_S8x4x256x256_S4x8x256x256_1_1_0_023_n_n none l r) : (⟨S4x4, .f32⟩ : BufTy).Contents (Elt F) → (⟨S8x4x256x256, .f32⟩ : BufTy).Contents (Elt F) → (⟨S4x8x256x256, .f32⟩ : BufTy).Contents (Elt F)),
    unary main_v148 main_v149 ((transpose S8x4x256x256 [1, 0, 2, 3] · transposes_S4x8x256x256_S8x4x256x256_1_0_2_3) : (⟨S4x8x256x256, .f32⟩ : BufTy).Contents (Elt F) → (⟨S8x4x256x256, .f32⟩ : BufTy).Contents (Elt F)),
    binary main_v144 main_v149 main_v150 (addf : (⟨S8x4x256x256, .f32⟩ : BufTy).Contents (Elt F) → (⟨S8x4x256x256, .f32⟩ : BufTy).Contents (Elt F) → (⟨S8x4x256x256, .f32⟩ : BufTy).Contents (Elt F)) ]

/-- Operations 159 … 176: the second convolution, kernel row 2. -/
abbrev rowG : List (HloOp τ sig (Elt F)) :=
  [ unary main_v115 main_v151 ((extractStridedSlice S8x4x256x256 ![0, 0, 2, 0] · slices_S8x4x258x258_S8x4x256x256_0_0_2_0) : (⟨S8x4x258x258, .f32⟩ : BufTy).Contents (Elt F) → (⟨S8x4x256x256, .f32⟩ : BufTy).Contents (Elt F)),
    unary main_arg7 main_v152 ((extractStridedSlice S4x4x1x1 ![0, 0, 2, 0] · slices_S4x4x3x3_S4x4x1x1_0_0_2_0) : (⟨S4x4x3x3, .f32⟩ : BufTy).Contents (Elt F) → (⟨S4x4x1x1, .f32⟩ : BufTy).Contents (Elt F)),
    reshape main_v152 main_v153 (rfl : (.f32 : EltTy) = .f32) shapeCasts_S4x4x1x1_S4x4,
    binary main_v153 main_v151 main_v154 ((fun l r => Host.dotGeneral dot_S4x4_S8x4x256x256_S4x8x256x256_1_1_0_023_n_n none l r) : (⟨S4x4, .f32⟩ : BufTy).Contents (Elt F) → (⟨S8x4x256x256, .f32⟩ : BufTy).Contents (Elt F) → (⟨S4x8x256x256, .f32⟩ : BufTy).Contents (Elt F)),
    unary main_v154 main_v155 ((transpose S8x4x256x256 [1, 0, 2, 3] · transposes_S4x8x256x256_S8x4x256x256_1_0_2_3) : (⟨S4x8x256x256, .f32⟩ : BufTy).Contents (Elt F) → (⟨S8x4x256x256, .f32⟩ : BufTy).Contents (Elt F)),
    binary main_v150 main_v155 main_v156 (addf : (⟨S8x4x256x256, .f32⟩ : BufTy).Contents (Elt F) → (⟨S8x4x256x256, .f32⟩ : BufTy).Contents (Elt F) → (⟨S8x4x256x256, .f32⟩ : BufTy).Contents (Elt F)),
    unary main_v115 main_v157 ((extractStridedSlice S8x4x256x256 ![0, 0, 2, 1] · slices_S8x4x258x258_S8x4x256x256_0_0_2_1) : (⟨S8x4x258x258, .f32⟩ : BufTy).Contents (Elt F) → (⟨S8x4x256x256, .f32⟩ : BufTy).Contents (Elt F)),
    unary main_arg7 main_v158 ((extractStridedSlice S4x4x1x1 ![0, 0, 2, 1] · slices_S4x4x3x3_S4x4x1x1_0_0_2_1) : (⟨S4x4x3x3, .f32⟩ : BufTy).Contents (Elt F) → (⟨S4x4x1x1, .f32⟩ : BufTy).Contents (Elt F)),
    reshape main_v158 main_v159 (rfl : (.f32 : EltTy) = .f32) shapeCasts_S4x4x1x1_S4x4,
    binary main_v159 main_v157 main_v160 ((fun l r => Host.dotGeneral dot_S4x4_S8x4x256x256_S4x8x256x256_1_1_0_023_n_n none l r) : (⟨S4x4, .f32⟩ : BufTy).Contents (Elt F) → (⟨S8x4x256x256, .f32⟩ : BufTy).Contents (Elt F) → (⟨S4x8x256x256, .f32⟩ : BufTy).Contents (Elt F)),
    unary main_v160 main_v161 ((transpose S8x4x256x256 [1, 0, 2, 3] · transposes_S4x8x256x256_S8x4x256x256_1_0_2_3) : (⟨S4x8x256x256, .f32⟩ : BufTy).Contents (Elt F) → (⟨S8x4x256x256, .f32⟩ : BufTy).Contents (Elt F)),
    binary main_v156 main_v161 main_v162 (addf : (⟨S8x4x256x256, .f32⟩ : BufTy).Contents (Elt F) → (⟨S8x4x256x256, .f32⟩ : BufTy).Contents (Elt F) → (⟨S8x4x256x256, .f32⟩ : BufTy).Contents (Elt F)),
    unary main_v115 main_v163 ((extractStridedSlice S8x4x256x256 ![0, 0, 2, 2] · slices_S8x4x258x258_S8x4x256x256_0_0_2_2) : (⟨S8x4x258x258, .f32⟩ : BufTy).Contents (Elt F) → (⟨S8x4x256x256, .f32⟩ : BufTy).Contents (Elt F)),
    unary main_arg7 main_v164 ((extractStridedSlice S4x4x1x1 ![0, 0, 2, 2] · slices_S4x4x3x3_S4x4x1x1_0_0_2_2) : (⟨S4x4x3x3, .f32⟩ : BufTy).Contents (Elt F) → (⟨S4x4x1x1, .f32⟩ : BufTy).Contents (Elt F)),
    reshape main_v164 main_v165 (rfl : (.f32 : EltTy) = .f32) shapeCasts_S4x4x1x1_S4x4,
    binary main_v165 main_v163 main_v166 ((fun l r => Host.dotGeneral dot_S4x4_S8x4x256x256_S4x8x256x256_1_1_0_023_n_n none l r) : (⟨S4x4, .f32⟩ : BufTy).Contents (Elt F) → (⟨S8x4x256x256, .f32⟩ : BufTy).Contents (Elt F) → (⟨S4x8x256x256, .f32⟩ : BufTy).Contents (Elt F)),
    unary main_v166 main_v167 ((transpose S8x4x256x256 [1, 0, 2, 3] · transposes_S4x8x256x256_S8x4x256x256_1_0_2_3) : (⟨S4x8x256x256, .f32⟩ : BufTy).Contents (Elt F) → (⟨S8x4x256x256, .f32⟩ : BufTy).Contents (Elt F)),
    binary main_v162 main_v167 main_v168 (addf : (⟨S8x4x256x256, .f32⟩ : BufTy).Contents (Elt F) → (⟨S8x4x256x256, .f32⟩ : BufTy).Contents (Elt F) → (⟨S8x4x256x256, .f32⟩ : BufTy).Contents (Elt F)) ]

/-- Operations 177 … 198: bias, residual, normalisation, and the rows to quantise. -/
abbrev norm2 : List (HloOp τ sig (Elt F)) :=
  [ unary main_arg8 main_v169 (broadcastInDim S1x4x1x1 ![1] bcast_S4_S1x4x1x1_1 : (⟨S4, .f32⟩ : BufTy).Contents (Elt F) → (⟨S1x4x1x1, .f32⟩ : BufTy).Contents (Elt F)),
    unary main_v169 main_v170 (broadcastInDim S8x4x256x256 ![0, 1, 2, 3] bcast_S1x4x1x1_S8x4x256x256_0_1_2_3 : (⟨S1x4x1x1, .f32⟩ : BufTy).Contents (Elt F) → (⟨S8x4x256x256, .f32⟩ : BufTy).Contents (Elt F)),
    binary main_v168 main_v170 main_v171 (addf : (⟨S8x4x256x256, .f32⟩ : BufTy).Contents (Elt F) → (⟨S8x4x256x256, .f32⟩ : BufTy).Contents (Elt F) → (⟨S8x4x256x256, .f32⟩ : BufTy).Contents (Elt F)),
    binary main_v171 main_v114 main_v172 (addf : (⟨S8x4x256x256, .f32⟩ : BufTy).Contents (Elt F) → (⟨S8x4x256x256, .f32⟩ : BufTy).Contents (Elt F) → (⟨S8x4x256x256, .f32⟩ : BufTy).Contents (Elt F)),
    unary main_arg11 main_v173 (broadcastInDim S1x4x1x1 ![1] bcast_S4_S1x4x1x1_1 : (⟨S4, .f32⟩ : BufTy).Contents (Elt F) → (⟨S1x4x1x1, .f32⟩ : BufTy).Contents (Elt F)),
    unary main_v173 main_v174 (broadcastInDim S8x4x256x256 ![0, 1, 2, 3] bcast_S1x4x1x1_S8x4x256x256_0_1_2_3 : (⟨S1x4x1x1, .f32⟩ : BufTy).Contents (Elt F) → (⟨S8x4x256x256, .f32⟩ : BufTy).Contents (Elt F)),
    binary main_v172 main_v174 main_v175 (subf : (⟨S8x4x256x256, .f32⟩ : BufTy).Contents (Elt F) → (⟨S8x4x256x256, .f32⟩ : BufTy).Contents (Elt F) → (⟨S8x4x256x256, .f32⟩ : BufTy).Contents (Elt F)),
    unary main_arg12 main_v176 (broadcastInDim S1x4x1x1 ![1] bcast_S4_S1x4x1x1_1 : (⟨S4, .f32⟩ : BufTy).Contents (Elt F) → (⟨S1x4x1x1, .f32⟩ : BufTy).Contents (Elt F)),
    nullary main_cst_1 (constant S_ .f32 0x3727C5AC#32),
    unary main_cst_1 main_v177 (broadcastInDim S1x4x1x1 ![] bcast_S_S1x4x1x1 : (⟨S_, .f32⟩ : BufTy).Contents (Elt F) → (⟨S1x4x1x1, .f32⟩ : BufTy).Contents (Elt F)),
    binary main_v176 main_v177 main_v178 (addf : (⟨S1x4x1x1, .f32⟩ : BufTy).Contents (Elt F) → (⟨S1x4x1x1, .f32⟩ : BufTy).Contents (Elt F) → (⟨S1x4x1x1, .f32⟩ : BufTy).Contents (Elt F)),
    unary main_v178 main_v179 (Host.sqrt : (⟨S1x4x1x1, .f32⟩ : BufTy).Contents (Elt F) → (⟨S1x4x1x1, .f32⟩ : BufTy).Contents (Elt F)),
    unary main_v179 main_v180 (broadcastInDim S8x4x256x256 ![0, 1, 2, 3] bcast_S1x4x1x1_S8x4x256x256_0_1_2_3 : (⟨S1x4x1x1, .f32⟩ : BufTy).Contents (Elt F) → (⟨S8x4x256x256, .f32⟩ : BufTy).Contents (Elt F)),
    binary main_v175 main_v180 main_v181 (Host.divf : (⟨S8x4x256x256, .f32⟩ : BufTy).Contents (Elt F) → (⟨S8x4x256x256, .f32⟩ : BufTy).Contents (Elt F) → (⟨S8x4x256x256, .f32⟩ : BufTy).Contents (Elt F)),
    unary main_arg9 main_v182 (broadcastInDim S1x4x1x1 ![1] bcast_S4_S1x4x1x1_1 : (⟨S4, .f32⟩ : BufTy).Contents (Elt F) → (⟨S1x4x1x1, .f32⟩ : BufTy).Contents (Elt F)),
    unary main_v182 main_v183 (broadcastInDim S8x4x256x256 ![0, 1, 2, 3] bcast_S1x4x1x1_S8x4x256x256_0_1_2_3 : (⟨S1x4x1x1, .f32⟩ : BufTy).Contents (Elt F) → (⟨S8x4x256x256, .f32⟩ : BufTy).Contents (Elt F)),
    binary main_v181 main_v183 main_v184 (mulf : (⟨S8x4x256x256, .f32⟩ : BufTy).Contents (Elt F) → (⟨S8x4x256x256, .f32⟩ : BufTy).Contents (Elt F) → (⟨S8x4x256x256, .f32⟩ : BufTy).Contents (Elt F)),
    unary main_arg10 main_v185 (broadcastInDim S1x4x1x1 ![1] bcast_S4_S1x4x1x1_1 : (⟨S4, .f32⟩ : BufTy).Contents (Elt F) → (⟨S1x4x1x1, .f32⟩ : BufTy).Contents (Elt F)),
    unary main_v185 main_v186 (broadcastInDim S8x4x256x256 ![0, 1, 2, 3] bcast_S1x4x1x1_S8x4x256x256_0_1_2_3 : (⟨S1x4x1x1, .f32⟩ : BufTy).Contents (Elt F) → (⟨S8x4x256x256, .f32⟩ : BufTy).Contents (Elt F)),
    binary main_v184 main_v186 main_v187 (addf : (⟨S8x4x256x256, .f32⟩ : BufTy).Contents (Elt F) → (⟨S8x4x256x256, .f32⟩ : BufTy).Contents (Elt F) → (⟨S8x4x256x256, .f32⟩ : BufTy).Contents (Elt F)),
    unary main_v187 main_v188 ((transpose S8x4x256x256 [0, 1, 3, 2] · transposes_S8x4x256x256_S8x4x256x256_0_1_3_2) : (⟨S8x4x256x256, .f32⟩ : BufTy).Contents (Elt F) → (⟨S8x4x256x256, .f32⟩ : BufTy).Contents (Elt F)),
    reshape main_v188 main_v189 (rfl : (.f32 : EltTy) = .f32) shapeCasts_S8x4x256x256_S8x1024x256 ]

/-- Operations 199 … 214: the distances. -/
abbrev dist : List (HloOp τ sig (Elt F)) :=
  [ binary main_v189 main_v189 main_v190 (mulf : (⟨S8x1024x256, .f32⟩ : BufTy).Contents (Elt F) → (⟨S8x1024x256, .f32⟩ : BufTy).Contents (Elt F) → (⟨S8x1024x256, .f32⟩ : BufTy).Contents (Elt F)),
    nullary main_cst_2 (constant S_ .f32 0x00000000#32),
    binary main_v190 main_cst_2 main_v191 ((fun x v => Host.reduceAdd x v reducesTo_S8x1024x256_S8x1024_d2 h_S_) : (⟨S8x1024x256, .f32⟩ : BufTy).Contents (Elt F) → (⟨S_, .f32⟩ : BufTy).Contents (Elt F) → (⟨S8x1024, .f32⟩ : BufTy).Contents (Elt F)),
    unary main_v191 main_v192 (broadcastInDim S8x1024x1 ![0, 1] bcast_S8x1024_S8x1024x1_0_1 : (⟨S8x1024, .f32⟩ : BufTy).Contents (Elt F) → (⟨S8x1024x1, .f32⟩ : BufTy).Contents (Elt F)),
    binary main_arg13 main_arg13 main_v193 (mulf : (⟨S1024x256, .f32⟩ : BufTy).Contents (Elt F) → (⟨S1024x256, .f32⟩ : BufTy).Contents (Elt F) → (⟨S1024x256, .f32⟩ : BufTy).Contents (Elt F)),
    nullary main_cst_3 (constant S_ .f32 0x00000000#32),
    binary main_v193 main_cst_3 main_v194 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    binary main_v189 main_arg13 main_v195 ((fun l r => Host.dotGeneral dot_S8x1024x256_S1024x256_S8x1024x1024_2_1_01_0_n_n none l r) : (⟨S8x1024x256, .f32⟩ : BufTy).Contents (Elt F) → (⟨S1024x256, .f32⟩ : BufTy).Contents (Elt F) → (⟨S8x1024x1024, .f32⟩ : BufTy).Contents (Elt F)),
    nullary main_cst_4 (constant S_ .f32 0x40000000#32),
    unary main_cst_4 main_v196 (broadcastInDim S8x1024x1024 ![] bcast_S_S8x1024x1024 : (⟨S_, .f32⟩ : BufTy).Contents (Elt F) → (⟨S8x1024x1024, .f32⟩ : BufTy).Contents (Elt F)),
    binary main_v196 main_v195 main_v197 (mulf : (⟨S8x1024x1024, .f32⟩ : BufTy).Contents (Elt F) → (⟨S8x1024x1024, .f32⟩ : BufTy).Contents (Elt F) → (⟨S8x1024x1024, .f32⟩ : BufTy).Contents (Elt F)),
    unary main_v192 main_v198 (broadcastInDim S8x1024x1024 ![0, 1, 2] bcast_S8x1024x1_S8x1024x1024_0_1_2 : (⟨S8x1024x1, .f32⟩ : BufTy).Contents (Elt F) → (⟨S8x1024x1024, .f32⟩ : BufTy).Contents (Elt F)),
    binary main_v198 main_v197 main_v199 (subf : (⟨S8x1024x1024, .f32⟩ : BufTy).Contents (Elt F) → (⟨S8x1024x1024, .f32⟩ : BufTy).Contents (Elt F) → (⟨S8x1024x1024, .f32⟩ : BufTy).Contents (Elt F)),
    unary main_v194 main_v200 (broadcastInDim S1x1x1024 ![2] bcast_S1024_S1x1x1024_2 : (⟨S1024, .f32⟩ : BufTy).Contents (Elt F) → (⟨S1x1x1024, .f32⟩ : BufTy).Contents (Elt F)),
    unary main_v200 main_v201 (broadcastInDim S8x1024x1024 ![0, 1, 2] bcast_S1x1x1024_S8x1024x1024_0_1_2 : (⟨S1x1x1024, .f32⟩ : BufTy).Contents (Elt F) → (⟨S8x1024x1024, .f32⟩ : BufTy).Contents (Elt F)),
    binary main_v199 main_v201 main_v202 (addf : (⟨S8x1024x1024, .f32⟩ : BufTy).Contents (Elt F) → (⟨S8x1024x1024, .f32⟩ : BufTy).Contents (Elt F) → (⟨S8x1024x1024, .f32⟩ : BufTy).Contents (Elt F)) ]

/-- Operations 215 … 219: the nearest row's number. -/
abbrev nearest : List (HloOp τ sig (Elt F)) :=
  [ TRef.nullary (TRef.of (T := ⟨S8x1024x1024, .i32⟩) main_call3_v0) (iotaInDim S8x1024x1024 32 2),
    TRef.nullary (TRef.of (T := ⟨S_, .f32⟩) main_call3_cst) (constant S_ .f32 0x7F800000#32),
    TRef.nullary (TRef.of (T := ⟨S_, .i32⟩) main_call3_c) (constantI S_ 32 0#32),
    TRef.quaternary (TRef.of (T := ⟨S8x1024x1024, .f32⟩) main_v202) (TRef.of (T := ⟨S8x1024x1024, .i32⟩) main_call3_v0) (TRef.of (T := ⟨S_, .f32⟩) main_call3_cst) (TRef.of (T := ⟨S_, .i32⟩) main_call3_c) (TRef.of (T := ⟨S8x1024, .f32⟩) main_call3_v1_0) (fun x y u v j => (Host.argReduce reducer_argmin_f32_i32 x y u v reducesTo_S8x1024x1024_S8x1024_d2 h_S_ j).1),
    TRef.quaternary (TRef.of (T := ⟨S8x1024x1024, .f32⟩) main_v202) (TRef.of (T := ⟨S8x1024x1024, .i32⟩) main_call3_v0) (TRef.of (T := ⟨S_, .f32⟩) main_call3_cst) (TRef.of (T := ⟨S_, .i32⟩) main_call3_c) (TRef.of (T := ⟨S8x1024, .i32⟩) main_v203) (fun x y u v j => (Host.argReduce reducer_argmin_f32_i32 x y u v reducesTo_S8x1024x1024_S8x1024_d2 h_S_ j).2) ]

/-- Operations 220 … 242: the row taken from the codebook. -/
abbrev taken : List (HloOp τ sig (Elt F)) :=
  [ TRef.nullary (TRef.of (T := ⟨S_, .i32⟩) main_call4_c) (constantI S_ 32 0#32),
    TRef.unary (TRef.of (T := ⟨S_, .i32⟩) main_call4_c) (TRef.of (T := ⟨S8x1024, .i32⟩) main_call4_v0) (broadcastInDim S8x1024 ![] bcast_S_S8x1024),
    TRef.binary (TRef.of (T := ⟨S8x1024, .i32⟩) main_v203) (TRef.of (T := ⟨S8x1024, .i32⟩) main_call4_v0) (TRef.of (T := ⟨S8x1024, .i1⟩) main_call4_v1) (cmpi .slt),
    TRef.nullary (TRef.of (T := ⟨S_, .i32⟩) main_call4_c_0) (constantI S_ 32 1024#32),
    TRef.unary (TRef.of (T := ⟨S_, .i32⟩) main_call4_c_0) (TRef.of (T := ⟨S8x1024, .i32⟩) main_call4_v2) (broadcastInDim S8x1024 ![] bcast_S_S8x1024),
    TRef.binary (TRef.of (T := ⟨S8x1024, .i32⟩) main_v203) (TRef.of (T := ⟨S8x1024, .i32⟩) main_call4_v2) (TRef.of (T := ⟨S8x1024, .i32⟩) main_call4_v3) addi,
    TRef.ternary (TRef.of (T := ⟨S8x1024, .i1⟩) main_call4_v1) (TRef.of (T := ⟨S8x1024, .i32⟩) main_call4_v3) (TRef.of (T := ⟨S8x1024, .i32⟩) main_v203) (TRef.of (T := ⟨S8x1024, .i32⟩) main_call4_v4) select,
    TRef.unary (TRef.of (T := ⟨S8x1024, .i32⟩) main_call4_v4) (TRef.of (T := ⟨S8x1024x1, .i32⟩) main_call4_v5) (broadcastInDim S8x1024x1 ![0, 1] bcast_S8x1024_S8x1024x1_0_1),
    TRef.nullary (TRef.of (T := ⟨S1, .i32⟩) main_call4_c_1) (constantI S1 32 1023#32),
    TRef.nullary (TRef.of (T := ⟨S_, .i32⟩) main_call4_c_2) (constantI S_ 32 0#32),
    TRef.unary (TRef.of (T := ⟨S_, .i32⟩) main_call4_c_2) (TRef.of (T := ⟨S8x1024x1, .i32⟩) main_call4_v6) (broadcastInDim S8x1024x1 ![] bcast_S_S8x1024x1),
    TRef.binary (TRef.of (T := ⟨S8x1024x1, .i32⟩) main_call4_v5) (TRef.of (T := ⟨S8x1024x1, .i32⟩) main_call4_v6) (TRef.of (T := ⟨S8x1024x1, .i1⟩) main_call4_v7) (cmpi .sge),
    TRef.unary (TRef.of (T := ⟨S1, .i32⟩) main_call4_c_1) (TRef.of (T := ⟨S1x1x1, .i32⟩) main_call4_v8) (broadcastInDim S1x1x1 ![2] bcast_S1_S1x1x1_2),
    TRef.unary (TRef.of (T := ⟨S1x1x1, .i32⟩) main_call4_v8) (TRef.of (T := ⟨S8x1024x1, .i32⟩) main_call4_v9) (broadcastInDim S8x1024x1 ![0, 1, 2] bcast_S1x1x1_S8x1024x1_0_1_2),
    TRef.binary (TRef.of (T := ⟨S8x1024x1, .i32⟩) main_call4_v5) (TRef.of (T := ⟨S8x1024x1, .i32⟩) main_call4_v9) (TRef.of (T := ⟨S8x1024x1, .i1⟩) main_call4_v10) (cmpi .sle),
    TRef.binary (TRef.of (T := ⟨S8x1024x1, .i1⟩) main_call4_v7) (TRef.of (T := ⟨S8x1024x1, .i1⟩) main_call4_v10) (TRef.of (T := ⟨S8x1024x1, .i1⟩) main_call4_v11) andi,
    TRef.nullary (TRef.of (T := ⟨S_, .i1⟩) main_call4_c_3) (constantI S_ 1 1#1),
    TRef.binary (TRef.of (T := ⟨S8x1024x1, .i1⟩) main_call4_v11) (TRef.of (T := ⟨S_, .i1⟩) main_call4_c_3) (TRef.of (T := ⟨S8x1024, .i1⟩) main_call4_v12) (fun x v => Host.reduce IntOp.andi x v reducesTo_S8x1024x1_S8x1024_d2 h_S_),
    TRef.binary (TRef.of (T := ⟨S1024x256, .f32⟩) main_arg13) (TRef.of (T := ⟨S8x1024x1, .i32⟩) main_call4_v5) (TRef.of (T := ⟨S8x1024x256, .f32⟩) main_call4_v13) (fun x i => Host.gather gather_S1024x256_S8x1024x1_S8x1024x256_2_0_n_n_0_2_1256 x i),
    TRef.unary (TRef.of (T := ⟨S8x1024, .i1⟩) main_call4_v12) (TRef.of (T := ⟨S8x1024x256, .i1⟩) main_call4_v14) (broadcastInDim S8x1024x256 ![0, 1] bcast_S8x1024_S8x1024x256_0_1),
    TRef.nullary (TRef.of (T := ⟨S_, .f32⟩) main_call4_cst) (constant S_ .f32 0x7FC00000#32),
    TRef.unary (TRef.of (T := ⟨S_, .f32⟩) main_call4_cst) (TRef.of (T := ⟨S8x1024x256, .f32⟩) main_call4_v15) (broadcastInDim S8x1024x256 ![] bcast_S_S8x1024x256),
    TRef.ternary (TRef.of (T := ⟨S8x1024x256, .i1⟩) main_call4_v14) (TRef.of (T := ⟨S8x1024x256, .f32⟩) main_call4_v13) (TRef.of (T := ⟨S8x1024x256, .f32⟩) main_call4_v15) (TRef.of (T := ⟨S8x1024x256, .f32⟩) main_v204) select ]

/-- Operations 243 … 255: the three results. -/
abbrev results : List (HloOp τ sig (Elt F)) :=
  [ binary main_v189 main_v204 main_v205 (subf : (⟨S8x1024x256, .f32⟩ : BufTy).Contents (Elt F) → (⟨S8x1024x256, .f32⟩ : BufTy).Contents (Elt F) → (⟨S8x1024x256, .f32⟩ : BufTy).Contents (Elt F)),
    binary main_v205 main_v205 main_v206 (mulf : (⟨S8x1024x256, .f32⟩ : BufTy).Contents (Elt F) → (⟨S8x1024x256, .f32⟩ : BufTy).Contents (Elt F) → (⟨S8x1024x256, .f32⟩ : BufTy).Contents (Elt F)),
    nullary main_cst_5 (constant S_ .f32 0x00000000#32),
    binary main_v206 main_cst_5 main_v207 ((fun x v => Host.reduceAdd x v reducesTo_S8x1024x256_S_d0_1_2 h_S_) : (⟨S8x1024x256, .f32⟩ : BufTy).Contents (Elt F) → (⟨S_, .f32⟩ : BufTy).Contents (Elt F) → (⟨S_, .f32⟩ : BufTy).Contents (Elt F)),
    nullary main_cst_6 (constant S_ .f32 0x4A000000#32),
    binary main_v207 main_cst_6 main_v208 (Host.divf : (⟨S_, .f32⟩ : BufTy).Contents (Elt F) → (⟨S_, .f32⟩ : BufTy).Contents (Elt F) → (⟨S_, .f32⟩ : BufTy).Contents (Elt F)),
    nullary main_cst_7 (constant S_ .f32 0x3C23D70A#32),
    binary main_cst_7 main_v208 main_v209 (mulf : (⟨S_, .f32⟩ : BufTy).Contents (Elt F) → (⟨S_, .f32⟩ : BufTy).Contents (Elt F) → (⟨S_, .f32⟩ : BufTy).Contents (Elt F)),
    binary main_v204 main_v189 main_v210 (subf : (⟨S8x1024x256, .f32⟩ : BufTy).Contents (Elt F) → (⟨S8x1024x256, .f32⟩ : BufTy).Contents (Elt F) → (⟨S8x1024x256, .f32⟩ : BufTy).Contents (Elt F)),
    binary main_v189 main_v210 main_v211 (addf : (⟨S8x1024x256, .f32⟩ : BufTy).Contents (Elt F) → (⟨S8x1024x256, .f32⟩ : BufTy).Contents (Elt F) → (⟨S8x1024x256, .f32⟩ : BufTy).Contents (Elt F)),
    unary main_v211 main_v212 ((transpose S8x256x1024 [0, 2, 1] · transposes_S8x1024x256_S8x256x1024_0_2_1) : (⟨S8x1024x256, .f32⟩ : BufTy).Contents (Elt F) → (⟨S8x256x1024, .f32⟩ : BufTy).Contents (Elt F)),
    unary main_v203 main_v213 (broadcastInDim S8x1024x1 ![0, 1] bcast_S8x1024_S8x1024x1_0_1 : (⟨S8x1024, .i32⟩ : BufTy).Contents (Elt F) → (⟨S8x1024x1, .i32⟩ : BufTy).Contents (Elt F)),
    unary main_v209 main_v214 (broadcastInDim S1 ![] bcast_S_S1 : (⟨S_, .f32⟩ : BufTy).Contents (Elt F) → (⟨S1, .f32⟩ : BufTy).Contents (Elt F)) ]

/-- All 255 operations. -/
abbrev ops : List (HloOp τ sig (Elt F)) :=
  padIn ++ (rowA ++ (rowB ++ (rowC ++ (rowD ++ (norm1 ++ (padMid ++ (rowE ++ (rowF ++ (rowG ++ (norm2 ++ (dist ++ (nearest ++ (taken ++ (results))))))))))))))

set_option maxHeartbeats 8000000 in
/-- The program runs exactly these operations. -/
theorem main_eq (c : Dev nD) : main (F := F) c = seq ops := rfl

end Cert.Ref

end
-- ==== Proof.RefRun.lean ====
/- What each stage of the reference writes, and the reference's run: it ends with every buffer at the fold of the
   operations over the contents at launch, its arguments unchanged and its counters at zero. -/
module

public import proofs.«01_k».proof.Proof.RefOps
public import Idealize.ShloMosaic.Lib.Quiescent

@[expose] public section

set_option Elab.async false
set_option maxRecDepth 16384

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-- What `padIn` writes. -/
abbrev padInW : List (Ref sig .tc) := [main_c, main_call0_v0, main_v0]

/-- What `rowA` writes. -/
abbrev rowAW : List (Ref sig .tc) := [main_v1, main_v2, main_v3, main_v4, main_v5, main_v6, main_v7, main_v8, main_v9, main_v10, main_v11, main_v12, main_v13, main_v14, main_v15, main_v16, main_v17, main_v18, main_v19, main_v20, main_v21, main_v22, main_v23]

/-- What `rowB` writes. -/
abbrev rowBW : List (Ref sig .tc) := [main_v24, main_v25, main_v26, main_v27, main_v28, main_v29, main_v30, main_v31, main_v32, main_v33, main_v34, main_v35, main_v36, main_v37, main_v38, main_v39, main_v40, main_v41, main_v42, main_v43, main_v44, main_v45, main_v46, main_v47]

/-- What `rowC` writes. -/
abbrev rowCW : List (Ref sig .tc) := [main_v48, main_v49, main_v50, main_v51, main_v52, main_v53, main_v54, main_v55, main_v56, main_v57, main_v58, main_v59, main_v60, main_v61, main_v62, main_v63, main_v64, main_v65, main_v66, main_v67, main_v68, main_v69, main_v70, main_v71]

/-- What `rowD` writes. -/
abbrev rowDW : List (Ref sig .tc) := [main_v72, main_v73, main_v74, main_v75, main_v76, main_v77, main_v78, main_v79, main_v80, main_v81, main_v82, main_v83, main_v84, main_v85, main_v86, main_v87, main_v88, main_v89, main_v90, main_v91, main_v92, main_v93, main_v94, main_v95]

/-- What `norm1` writes. -/
abbrev norm1W : List (Ref sig .tc) := [main_v96, main_v97, main_v98, main_v99, main_v100, main_v101, main_v102, main_cst, main_v103, main_v104, main_v105, main_v106, main_v107, main_v108, main_v109, main_v110, main_v111, main_v112, main_v113, main_call1_cst, main_call1_v0, main_v114]

/-- What `padMid` writes. -/
abbrev padMidW : List (Ref sig .tc) := [main_c_0, main_call2_v0, main_v115]

/-- What `rowE` writes. -/
abbrev rowEW : List (Ref sig .tc) := [main_v116, main_v117, main_v118, main_v119, main_v120, main_v121, main_v122, main_v123, main_v124, main_v125, main_v126, main_v127, main_v128, main_v129, main_v130, main_v131, main_v132]

/-- What `rowF` writes. -/
abbrev rowFW : List (Ref sig .tc) := [main_v133, main_v134, main_v135, main_v136, main_v137, main_v138, main_v139, main_v140, main_v141, main_v142, main_v143, main_v144, main_v145, main_v146, main_v147, main_v148, main_v149, main_v150]

/-- What `rowG` writes. -/
abbrev rowGW : List (Ref sig .tc) := [main_v151, main_v152, main_v153, main_v154, main_v155, main_v156, main_v157, main_v158, main_v159, main_v160, main_v161, main_v162, main_v163, main_v164, main_v165, main_v166, main_v167, main_v168]

/-- What `norm2` writes. -/
abbrev norm2W : List (Ref sig .tc) := [main_v169, main_v170, main_v171, main_v172, main_v173, main_v174, main_v175, main_v176, main_cst_1, main_v177, main_v178, main_v179, main_v180, main_v181, main_v182, main_v183, main_v184, main_v185, main_v186, main_v187, main_v188, main_v189]

/-- What `dist` writes. -/
abbrev distW : List (Ref sig .tc) := [main_v190, main_cst_2, main_v191, main_v192, main_v193, main_cst_3, main_v194, main_v195, main_cst_4, main_v196, main_v197, main_v198, main_v199, main_v200, main_v201, main_v202]

/-- What `nearest` writes. -/
abbrev nearestW : List (Ref sig .tc) := [main_call3_v0, main_call3_cst, main_call3_c, main_call3_v1_0, main_v203]

/-- What `taken` writes. -/
abbrev takenW : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v204]

/-- What `results` writes. -/
abbrev resultsW : List (Ref sig .tc) := [main_v205, main_v206, main_cst_5, main_v207, main_cst_6, main_v208, main_cst_7, main_v209, main_v210, main_v211, main_v212, main_v213, main_v214]

/-- `padIn` leaves every other buffer as it was. -/
theorem padIn_keep (V : Valuation τ sig (Elt F)) {r : Ref sig .tc} (h : r ∉ padInW) :
    after padIn V (Proc.devRef .tc r) = V (Proc.devRef .tc r) :=
  after_of_writes_sub padIn V (forall_writes_sub_of_map rfl) h

/-- `rowA` leaves every other buffer as it was. -/
theorem rowA_keep (V : Valuation τ sig (Elt F)) {r : Ref sig .tc} (h : r ∉ rowAW) :
    after rowA V (Proc.devRef .tc r) = V (Proc.devRef .tc r) :=
  after_of_writes_sub rowA V (forall_writes_sub_of_map rfl) h

/-- `rowB` leaves every other buffer as it was. -/
theorem rowB_keep (V : Valuation τ sig (Elt F)) {r : Ref sig .tc} (h : r ∉ rowBW) :
    after rowB V (Proc.devRef .tc r) = V (Proc.devRef .tc r) :=
  after_of_writes_sub rowB V (forall_writes_sub_of_map rfl) h

/-- `rowC` leaves every other buffer as it was. -/
theorem rowC_keep (V : Valuation τ sig (Elt F)) {r : Ref sig .tc} (h : r ∉ rowCW) :
    after rowC V (Proc.devRef .tc r) = V (Proc.devRef .tc r) :=
  after_of_writes_sub rowC V (forall_writes_sub_of_map rfl) h

/-- `rowD` leaves every other buffer as it was. -/
theorem rowD_keep (V : Valuation τ sig (Elt F)) {r : Ref sig .tc} (h : r ∉ rowDW) :
    after rowD V (Proc.devRef .tc r) = V (Proc.devRef .tc r) :=
  after_of_writes_sub rowD V (forall_writes_sub_of_map rfl) h

/-- `norm1` leaves every other buffer as it was. -/
theorem norm1_keep (V : Valuation τ sig (Elt F)) {r : Ref sig .tc} (h : r ∉ norm1W) :
    after norm1 V (Proc.devRef .tc r) = V (Proc.devRef .tc r) :=
  after_of_writes_sub norm1 V (forall_writes_sub_of_map rfl) h

/-- `padMid` leaves every other buffer as it was. -/
theorem padMid_keep (V : Valuation τ sig (Elt F)) {r : Ref sig .tc} (h : r ∉ padMidW) :
    after padMid V (Proc.devRef .tc r) = V (Proc.devRef .tc r) :=
  after_of_writes_sub padMid V (forall_writes_sub_of_map rfl) h

/-- `rowE` leaves every other buffer as it was. -/
theorem rowE_keep (V : Valuation τ sig (Elt F)) {r : Ref sig .tc} (h : r ∉ rowEW) :
    after rowE V (Proc.devRef .tc r) = V (Proc.devRef .tc r) :=
  after_of_writes_sub rowE V (forall_writes_sub_of_map rfl) h

/-- `rowF` leaves every other buffer as it was. -/
theorem rowF_keep (V : Valuation τ sig (Elt F)) {r : Ref sig .tc} (h : r ∉ rowFW) :
    after rowF V (Proc.devRef .tc r) = V (Proc.devRef .tc r) :=
  after_of_writes_sub rowF V (forall_writes_sub_of_map rfl) h

/-- `rowG` leaves every other buffer as it was. -/
theorem rowG_keep (V : Valuation τ sig (Elt F)) {r : Ref sig .tc} (h : r ∉ rowGW) :
    after rowG V (Proc.devRef .tc r) = V (Proc.devRef .tc r) :=
  after_of_writes_sub rowG V (forall_writes_sub_of_map rfl) h

/-- `norm2` leaves every other buffer as it was. -/
theorem norm2_keep (V : Valuation τ sig (Elt F)) {r : Ref sig .tc} (h : r ∉ norm2W) :
    after norm2 V (Proc.devRef .tc r) = V (Proc.devRef .tc r) :=
  after_of_writes_sub norm2 V (forall_writes_sub_of_map rfl) h

/-- `dist` leaves every other buffer as it was. -/
theorem dist_keep (V : Valuation τ sig (Elt F)) {r : Ref sig .tc} (h : r ∉ distW) :
    after dist V (Proc.devRef .tc r) = V (Proc.devRef .tc r) :=
  after_of_writes_sub dist V (forall_writes_sub_of_map rfl) h

/-- `nearest` leaves every other buffer as it was. -/
theorem nearest_keep (V : Valuation τ sig (Elt F)) {r : Ref sig .tc} (h : r ∉ nearestW) :
    after nearest V (Proc.devRef .tc r) = V (Proc.devRef .tc r) :=
  after_of_writes_sub nearest V (forall_writes_sub_of_map rfl) h

/-- `taken` leaves every other buffer as it was. -/
theorem taken_keep (V : Valuation τ sig (Elt F)) {r : Ref sig .tc} (h : r ∉ takenW) :
    after taken V (Proc.devRef .tc r) = V (Proc.devRef .tc r) :=
  after_of_writes_sub taken V (forall_writes_sub_of_map rfl) h

/-- `results` leaves every other buffer as it was. -/
theorem results_keep (V : Valuation τ sig (Elt F)) {r : Ref sig .tc} (h : r ∉ resultsW) :
    after results V (Proc.devRef .tc r) = V (Proc.devRef .tc r) :=
  after_of_writes_sub results V (forall_writes_sub_of_map rfl) h

/-- No buffer of the program is scoped. -/
theorem scopedRefs_none : (Finset.univ.filter fun b : Ref sig .tc => b.isScoped) = ∅ := by decide

/-- No counter of the program is scoped. -/
theorem scopedSems_none : (Finset.univ.filter fun sm : SemLoc sig => sm.isScoped .tc) = ∅ := by decide

/-- The stages' operations one stage after another. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- `padIn` touches the device's buffers only. -/
theorem padIn_sub : (padIn : List (HloOp τ sig (Elt F))).Forall fun op => op.bufs ⊆ tcRefs τ sig :=
  ⟨nullary_bufs_sub .., unary_bufs_sub .., binary_bufs_sub ..⟩

/-- `rowA` touches the device's buffers only. -/
theorem rowA_sub : (rowA : List (HloOp τ sig (Elt F))).Forall fun op => op.bufs ⊆ tcRefs τ sig :=
  ⟨unary_bufs_sub .., unary_bufs_sub .., reshape_bufs_sub .., binary_bufs_sub .., unary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub ..⟩

/-- `rowB` touches the device's buffers only. -/
theorem rowB_sub : (rowB : List (HloOp τ sig (Elt F))).Forall fun op => op.bufs ⊆ tcRefs τ sig :=
  ⟨unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub ..⟩

/-- `rowC` touches the device's buffers only. -/
theorem rowC_sub : (rowC : List (HloOp τ sig (Elt F))).Forall fun op => op.bufs ⊆ tcRefs τ sig :=
  ⟨unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub ..⟩

/-- `rowD` touches the device's buffers only. -/
theorem rowD_sub : (rowD : List (HloOp τ sig (Elt F))).Forall fun op => op.bufs ⊆ tcRefs τ sig :=
  ⟨unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub ..⟩

/-- `norm1` touches the device's buffers only. -/
theorem norm1_sub : (norm1 : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- `padMid` touches the device's buffers only. -/
theorem padMid_sub : (padMid : List (HloOp τ sig (Elt F))).Forall fun op => op.bufs ⊆ tcRefs τ sig :=
  ⟨nullary_bufs_sub .., unary_bufs_sub .., binary_bufs_sub ..⟩

/-- `rowE` touches the device's buffers only. -/
theorem rowE_sub : (rowE : List (HloOp τ sig (Elt F))).Forall fun op => op.bufs ⊆ tcRefs τ sig :=
  ⟨unary_bufs_sub .., unary_bufs_sub .., reshape_bufs_sub .., binary_bufs_sub .., unary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub ..⟩

/-- `rowF` touches the device's buffers only. -/
theorem rowF_sub : (rowF : List (HloOp τ sig (Elt F))).Forall fun op => op.bufs ⊆ tcRefs τ sig :=
  ⟨unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub ..⟩

/-- `rowG` touches the device's buffers only. -/
theorem rowG_sub : (rowG : List (HloOp τ sig (Elt F))).Forall fun op => op.bufs ⊆ tcRefs τ sig :=
  ⟨unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub ..⟩

/-- `norm2` touches the device's buffers only. -/
theorem norm2_sub : (norm2 : List (HloOp τ sig (Elt F))).Forall fun op => op.bufs ⊆ tcRefs τ sig :=
  ⟨unary_bufs_sub .., unary_bufs_sub .., binary_bufs_sub .., binary_bufs_sub .., unary_bufs_sub .., unary_bufs_sub .., binary_bufs_sub .., unary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub ..⟩

/-- `dist` touches the device's buffers only. -/
theorem dist_sub : (dist : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., binary_bufs_sub .., nullary_bufs_sub .., unary_bufs_sub .., binary_bufs_sub .., unary_bufs_sub .., binary_bufs_sub .., unary_bufs_sub .., unary_bufs_sub .., binary_bufs_sub ..⟩

/-- `nearest` touches the device's buffers only. -/
theorem nearest_sub : (nearest : List (HloOp τ sig (Elt F))).Forall fun op => op.bufs ⊆ tcRefs τ sig :=
  ⟨nullary_bufs_sub .., nullary_bufs_sub .., nullary_bufs_sub .., quaternary_bufs_sub .., quaternary_bufs_sub ..⟩

/-- `taken` touches the device's buffers only. -/
theorem taken_sub : (taken : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- `results` touches the device's buffers only. -/
theorem results_sub : (results : List (HloOp τ sig (Elt F))).Forall fun op => op.bufs ⊆ tcRefs τ sig :=
  ⟨binary_bufs_sub .., binary_bufs_sub .., nullary_bufs_sub .., binary_bufs_sub .., nullary_bufs_sub .., binary_bufs_sub .., nullary_bufs_sub .., binary_bufs_sub .., binary_bufs_sub .., binary_bufs_sub .., unary_bufs_sub .., unary_bufs_sub .., unary_bufs_sub ..⟩

/-- Every operation touches the device's buffers only. -/
theorem ops_sub : (ops : List (HloOp τ sig (Elt F))).Forall fun op => op.bufs ⊆ tcRefs τ sig := by
  simp only [ops, List.forall_append]
  exact ⟨padIn_sub, rowA_sub, rowB_sub, rowC_sub, rowD_sub, norm1_sub, padMid_sub, rowE_sub, rowF_sub, rowG_sub, norm2_sub, dist_sub, nearest_sub, taken_sub, results_sub⟩

/-- Every operation determines its result. -/
theorem ops_fresh : ∀ op ∈ (ops : List (HloOp τ sig (Elt F))), op.fresh = ∅ :=
  List.forall_iff_forall_mem.mp (forall_fresh_of_map rfl)

/-- The contents once all stages have run. -/
def final (V : Valuation τ sig (Elt F)) : Valuation τ sig (Elt F) :=
  after results (after taken (after nearest (after dist (after norm2 (after rowG (after rowF (after rowE (after padMid (after norm1 (after rowD (after rowC (after rowB (after rowA (after padIn V))))))))))))))

/-- The whole fold is the stages' folds in order. -/
theorem after_ops (V : Valuation τ sig (Elt F)) : after ops V = final V := by
  simp only [ops, after_append]; rfl

/-- A buffer no stage writes ends as it began. -/
theorem final_keep (V : Valuation τ sig (Elt F)) {r : Ref sig .tc}
    (h : r ∉ padInW ++ rowAW ++ rowBW ++ rowCW ++ rowDW ++ norm1W ++ padMidW ++ rowEW ++ rowFW ++ rowGW ++ norm2W ++ distW ++ nearestW ++ takenW ++ resultsW) : final V (Proc.devRef .tc r) = V (Proc.devRef .tc r) := by
  simp only [List.mem_append, not_or] at h
  obtain ⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩ := h
  exact ((results_keep _ h14).trans ((taken_keep _ h13).trans ((nearest_keep _ h12).trans ((dist_keep _ h11).trans ((norm2_keep _ h10).trans ((rowG_keep _ h9).trans ((rowF_keep _ h8).trans ((rowE_keep _ h7).trans ((padMid_keep _ h6).trans ((norm1_keep _ h5).trans ((rowD_keep _ h4).trans ((rowC_keep _ h3).trans ((rowB_keep _ h2).trans ((rowA_keep _ h1).trans (padIn_keep _ h0)))))))))))))))

/-- The run: every buffer ends at the stages' fold over the contents at launch, and every counter at zero. -/
theorem run (m : (ℓ : Loc nD τ sig) → Buf (Elt F) ℓ) (ρ : Dev nD → PrngReg) :
    θ_run defs (onTc (τ := τ) (main (F := F))) ⟨m, fun _ => 0, ρ⟩ fun r =>
      (∀ (c : Dev nD) (b : Ref sig .tc),
        r.2.mem ((c.tc : Thread nD τ).loc b) = final (launchContents m c) (Proc.devRef .tc b)) ∧ r.2.sem = fun _ => 0 :=
  (θ_run defs _ _).mono (fun r h => ⟨fun c b => (h c b).trans (congrFun (after_ops _) _), sem_eq_zero_of_no_sems (by decide) r.2⟩)
    (run_seq scopedRefs_none scopedSems_none defs main (fun _ => ops) main_eq (fun _ => ops_sub) m ρ fun _ => ops_fresh)

/-- An argument's buffer ends as it was at launch. -/
theorem run_arg (m : (ℓ : Loc nD τ sig) → Buf (Elt F) ℓ) (c : Dev nD) {r : Ref sig .tc}
    (h : r ∉ padInW ++ rowAW ++ rowBW ++ rowCW ++ rowDW ++ norm1W ++ padMidW ++ rowEW ++ rowFW ++ rowGW ++ norm2W ++ distW ++ nearestW ++ takenW ++ resultsW) :
    final (launchContents m c) (Proc.devRef .tc r) = m ((c.tc : Thread nD τ).loc r) :=
  final_keep _ h

end Cert.Ref

end
-- ==== Proof.RefTerms.lean ====
/- The reference, stage by stage, as functions of arrays: one tap of a convolution, the two normalisations, the
   distances, the nearest row's number, the row taken, and the three results. -/
module

public import proofs.«01_k».proof.Proof.Gen.ReferenceIdeal

@[expose] public section

set_option maxRecDepth 16384

noncomputable section

namespace Cert.Ref

open Cert.ReferenceIdeal Cert.ReferenceIdeal.Gen Idealize.ShloMosaic Idealize.SL.Sem

variable {F : FTy → Type} [FloatOps F]

/-- The input padded by one on each side. -/
def padded1 (x : FVec F S8x2x512x512 .f32) : FVec F S8x2x514x514 .f32 :=
  pad S8x2x514x514 ![0, 0, 1, 1] ![0, 0, 1, 1] ![0, 0, 0, 0] x (sitofp .f32 (constantI S_ 32 0#32))
    pads_S8x2x512x512_S8x2x514x514_000_000_110_110 h_S_

/-- The middle array padded by one on each side. -/
def padded2 (y : FVec F S8x4x256x256 .f32) : FVec F S8x4x258x258 .f32 :=
  pad S8x4x258x258 ![0, 0, 1, 1] ![0, 0, 1, 1] ![0, 0, 0, 0] y (sitofp .f32 (constantI S_ 32 0#32))
    pads_S8x4x256x256_S8x4x258x258_000_000_110_110 h_S_

/-- Every tap of the first kernel is inside it. -/
theorem inKernel1 : ∀ kh kw : Fin 4, S4x2x4x4.Slices ![0, 0, kh.val, kw.val] S4x2x1x1 := by decide
/-- Every tap's window lies inside the padded input. -/
theorem inPadded1 : ∀ kh kw : Fin 4,
    S8x2x514x514.SlicesBy ![0, 0, kh.val, kw.val] ![1, 1, 2, 2] S8x2x256x256 := by decide
/-- Every tap of the second kernel is inside it. -/
theorem inKernel2 : ∀ kh kw : Fin 3, S4x4x3x3.Slices ![0, 0, kh.val, kw.val] S4x4x1x1 := by decide
/-- Every tap's window lies inside the padded middle array. -/
theorem inPadded2 : ∀ kh kw : Fin 3, S8x4x258x258.Slices ![0, 0, kh.val, kw.val] S8x4x256x256 := by decide

/-- One tap of the first convolution: the tap's weights times the strided window that starts at the tap. -/
def tap1 (kh kw : Fin 4) (w : FVec F S4x2x4x4 .f32) (xp : FVec F S8x2x514x514 .f32) : FVec F S8x4x256x256 .f32 :=
  transpose S8x4x256x256 [1, 0, 2, 3]
    (Host.dotGeneral dot_S4x2_S8x2x256x256_S4x8x256x256_1_1_0_023_n_n none
      (shapeCast S4x2 (extractStridedSlice S4x2x1x1 ![0, 0, kh.val, kw.val] w (inKernel1 kh kw)) shapeCasts_S4x2x1x1_S4x2)
      (Host.slice S8x2x256x256 ![0, 0, kh.val, kw.val] ![1, 1, 2, 2] xp (inPadded1 kh kw)))
    transposes_S4x8x256x256_S8x4x256x256_1_0_2_3

/-- One tap of the second convolution. -/
def tap2 (kh kw : Fin 3) (w : FVec F S4x4x3x3 .f32) (yp : FVec F S8x4x258x258 .f32) : FVec F S8x4x256x256 .f32 :=
  transpose S8x4x256x256 [1, 0, 2, 3]
    (Host.dotGeneral dot_S4x4_S8x4x256x256_S4x8x256x256_1_1_0_023_n_n none
      (shapeCast S4x4 (extractStridedSlice S4x4x1x1 ![0, 0, kh.val, kw.val] w (inKernel2 kh kw)) shapeCasts_S4x4x1x1_S4x4)
      (extractStridedSlice S8x4x256x256 ![0, 0, kh.val, kw.val] yp (inPadded2 kh kw)))
    transposes_S4x8x256x256_S8x4x256x256_1_0_2_3

/-- The first convolution's kernel row 0. -/
def firstRow1 (w : FVec F S4x2x4x4 .f32) (xp : FVec F S8x2x514x514 .f32) : FVec F S8x4x256x256 .f32 :=
  addf (addf (addf (tap1 0 0 w xp) (tap1 0 1 w xp)) (tap1 0 2 w xp)) (tap1 0 3 w xp)

/-- A further row of the first kernel, added tap by tap. -/
def nextRow1 (kh : Fin 4) (w : FVec F S4x2x4x4 .f32) (xp : FVec F S8x2x514x514 .f32) (acc : FVec F S8x4x256x256 .f32) :
    FVec F S8x4x256x256 .f32 :=
  addf (addf (addf (addf acc (tap1 kh 0 w xp)) (tap1 kh 1 w xp)) (tap1 kh 2 w xp)) (tap1 kh 3 w xp)

/-- The second convolution's kernel row 0. -/
def firstRow2 (w : FVec F S4x4x3x3 .f32) (yp : FVec F S8x4x258x258 .f32) : FVec F S8x4x256x256 .f32 :=
  addf (addf (tap2 0 0 w yp) (tap2 0 1 w yp)) (tap2 0 2 w yp)

/-- A further row of the second kernel, added tap by tap. -/
def nextRow2 (kh : Fin 3) (w : FVec F S4x4x3x3 .f32) (yp : FVec F S8x4x258x258 .f32) (acc : FVec F S8x4x256x256 .f32) :
    FVec F S8x4x256x256 .f32 :=
  addf (addf (addf acc (tap2 kh 0 w yp)) (tap2 kh 1 w yp)) (tap2 kh 2 w yp)

/-- A per-channel vector laid along the channels of the whole array. -/
def channel (v : FVec F S4 .f32) : FVec F S8x4x256x256 .f32 :=
  broadcastInDim S8x4x256x256 ![0, 1, 2, 3] bcast_S1x4x1x1_S8x4x256x256_0_1_2_3
    (broadcastInDim S1x4x1x1 ![1] bcast_S4_S1x4x1x1_1 v)

/-- The root of variance plus the small constant, laid along the channels. -/
def spread (rv : FVec F S4 .f32) : FVec F S8x4x256x256 .f32 :=
  broadcastInDim S8x4x256x256 ![0, 1, 2, 3] bcast_S1x4x1x1_S8x4x256x256_0_1_2_3
    (Host.sqrt (addf (broadcastInDim S1x4x1x1 ![1] bcast_S4_S1x4x1x1_1 rv)
      (broadcastInDim S1x4x1x1 ![] bcast_S_S1x4x1x1 (constant S_ .f32 0x3727C5AC#32))))

/-- Normalisation by the running mean and variance. -/
def normed (y : FVec F S8x4x256x256 .f32) (g be rm rv : FVec F S4 .f32) : FVec F S8x4x256x256 .f32 :=
  addf (mulf (Host.divf (subf y (channel rm)) (spread rv)) (channel g)) (channel be)

/-- The middle array: bias, normalisation and the positive part of the first convolution. -/
def middle (conv : FVec F S8x4x256x256 .f32) (b g be rm rv : FVec F S4 .f32) : FVec F S8x4x256x256 .f32 :=
  maximumf (normed (addf conv (channel b)) g be rm rv)
    (broadcastInDim S8x4x256x256 ![] bcast_S_S8x4x256x256 (constant S_ .f32 0x00000000#32))

/-- The rows to quantise: bias, the residual, normalisation, then the last two axes exchanged and the rows laid out. -/
def rows (conv y1 : FVec F S8x4x256x256 .f32) (b g be rm rv : FVec F S4 .f32) : FVec F S8x1024x256 .f32 :=
  shapeCast S8x1024x256
    (transpose S8x4x256x256 [0, 1, 3, 2] (normed (addf (addf conv (channel b)) y1) g be rm rv)
      transposes_S8x4x256x256_S8x4x256x256_0_1_3_2) shapeCasts_S8x4x256x256_S8x1024x256

/-- Every row's distance to every codebook row. -/
def distances (y : FVec F S8x1024x256 .f32) (cb : FVec F S1024x256 .f32) : FVec F S8x1024x1024 .f32 :=
  addf
    (subf
      (broadcastInDim S8x1024x1024 ![0, 1, 2] bcast_S8x1024x1_S8x1024x1024_0_1_2
        (broadcastInDim S8x1024x1 ![0, 1] bcast_S8x1024_S8x1024x1_0_1
          (Host.reduceAdd (mulf y y) (constant S_ .f32 0x00000000#32) reducesTo_S8x1024x256_S8x1024_d2 h_S_)))
      (mulf (broadcastInDim S8x1024x1024 ![] bcast_S_S8x1024x1024 (constant S_ .f32 0x40000000#32))
        (Host.dotGeneral dot_S8x1024x256_S1024x256_S8x1024x1024_2_1_01_0_n_n none y cb)))
    (broadcastInDim S8x1024x1024 ![0, 1, 2] bcast_S1x1x1024_S8x1024x1024_0_1_2
      (broadcastInDim S1x1x1024 ![2] bcast_S1024_S1x1x1024_2
        (Host.reduceAdd (mulf cb cb) (constant S_ .f32 0x00000000#32) reducesTo_S1024x256_S1024_d1 h_S_)))

/-- The number of the nearest codebook row. -/
def nearestRow (d : FVec F S8x1024x1024 .f32) : IVec S8x1024 32 := fun j =>
  (Host.argReduce reducer_argmin_f32_i32 d (iotaInDim S8x1024x1024 32 2) (constant S_ .f32 0x7F800000#32)
    (constantI S_ 32 0#32) reducesTo_S8x1024x1024_S8x1024_d2 h_S_ j).2

/-- A row number with a negative one counted from the end. -/
def wrapped (n : IVec S8x1024 32) : IVec S8x1024x1 32 :=
  broadcastInDim S8x1024x1 ![0, 1] bcast_S8x1024_S8x1024x1_0_1
    (select (cmpi .slt n (broadcastInDim S8x1024 ![] bcast_S_S8x1024 (constantI S_ 32 0#32)))
      (addi n (broadcastInDim S8x1024 ![] bcast_S_S8x1024 (constantI S_ 32 1024#32))) n)

/-- Whether a row number is in the codebook. -/
def inBook (n : IVec S8x1024x1 32) : IVec S8x1024 1 :=
  Host.reduce IntOp.andi
    (andi (cmpi .sge n (broadcastInDim S8x1024x1 ![] bcast_S_S8x1024x1 (constantI S_ 32 0#32)))
      (cmpi .sle n (broadcastInDim S8x1024x1 ![0, 1, 2] bcast_S1x1x1_S8x1024x1_0_1_2
        (broadcastInDim S1x1x1 ![2] bcast_S1_S1x1x1_2 (constantI S1 32 1023#32)))))
    (constantI S_ 1 1#1) reducesTo_S8x1024x1_S8x1024_d2 h_S_

/-- The codebook row of each number. -/
def rowsTaken (cb : FVec F S1024x256 .f32) (n : IVec S8x1024 32) : FVec F S8x1024x256 .f32 :=
  select (broadcastInDim S8x1024x256 ![0, 1] bcast_S8x1024_S8x1024x256_0_1 (inBook (wrapped n)))
    (Host.gather gather_S1024x256_S8x1024x1_S8x1024x256_2_0_n_n_0_2_1256 cb (wrapped n))
    (broadcastInDim S8x1024x256 ![] bcast_S_S8x1024x256 (constant S_ .f32 0x7FC00000#32))

/-- Result 1: the rows plus what takes them to the codebook's, rows and columns exchanged. -/
def latent (y q : FVec F S8x1024x256 .f32) : FVec F S8x256x1024 .f32 :=
  transpose S8x256x1024 [0, 2, 1] (addf y (subf q y)) transposes_S8x1024x256_S8x256x1024_0_2_1

/-- Result 2: the row numbers. -/
def numbers (n : IVec S8x1024 32) : IVec S8x1024x1 32 :=
  broadcastInDim S8x1024x1 ![0, 1] bcast_S8x1024_S8x1024x1_0_1 n

/-- Result 3: a hundredth of the mean square of the rows minus the codebook's. -/
def loss (y q : FVec F S8x1024x256 .f32) : FVec F S1 .f32 :=
  broadcastInDim S1 ![] bcast_S_S1
    (mulf (constant S_ .f32 0x3C23D70A#32)
      (Host.divf (Host.reduceAdd (mulf (subf y q) (subf y q)) (constant S_ .f32 0x00000000#32)
        reducesTo_S8x1024x256_S_d0_1_2 h_S_) (constant S_ .f32 0x4A000000#32)))

end Cert.Ref

end
-- ==== Proof.RefStages.lean ====
/- What each stage of the reference leaves in its last buffer, as a function of what it found. -/
module

public import proofs.«01_k».proof.Proof.RefOps
public import proofs.«01_k».proof.Proof.RefTerms

@[expose] public section

set_option Elab.async false
set_option maxRecDepth 16384
set_option maxHeartbeats 4000000

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-- The padded input. -/
theorem padIn_read (V : Valuation τ sig (Elt F)) :
    after padIn V (Proc.devRef .tc main_v0) = padded1 (V (Proc.devRef .tc main_arg0)) := by
  simp only [padIn, TRef.nullary, TRef.unary, TRef.binary, TRef.toBuf, TRef.ofBuf, cast_eq]
  after_results_simp
  rfl

/-- Kernel row 0 of the first convolution. -/
theorem rowA_read (V : Valuation τ sig (Elt F)) :
    after rowA V (Proc.devRef .tc main_v23) = firstRow1 (V (Proc.devRef .tc main_arg1)) (V (Proc.devRef .tc main_v0)) := by
  simp only [rowA]
  after_results_simp
  rfl

/-- Kernel row 1 of the first convolution. -/
theorem rowB_read (V : Valuation τ sig (Elt F)) :
    after rowB V (Proc.devRef .tc main_v47)
      = nextRow1 1 (V (Proc.devRef .tc main_arg1)) (V (Proc.devRef .tc main_v0)) (V (Proc.devRef .tc main_v23)) := by
  simp only [rowB]
  after_results_simp
  rfl

/-- Kernel row 2 of the first convolution. -/
theorem rowC_read (V : Valuation τ sig (Elt F)) :
    after rowC V (Proc.devRef .tc main_v71)
      = nextRow1 2 (V (Proc.devRef .tc main_arg1)) (V (Proc.devRef .tc main_v0)) (V (Proc.devRef .tc main_v47)) := by
  simp only [rowC]
  after_results_simp
  rfl

/-- Kernel row 3 of the first convolution. -/
theorem rowD_read (V : Valuation τ sig (Elt F)) :
    after rowD V (Proc.devRef .tc main_v95)
      = nextRow1 3 (V (Proc.devRef .tc main_arg1)) (V (Proc.devRef .tc main_v0)) (V (Proc.devRef .tc main_v71)) := by
  simp only [rowD]
  after_results_simp
  rfl

/-- The middle array. -/
theorem norm1_read (V : Valuation τ sig (Elt F)) :
    after norm1 V (Proc.devRef .tc main_v114)
      = middle (V (Proc.devRef .tc main_v95)) (V (Proc.devRef .tc main_arg2)) (V (Proc.devRef .tc main_arg3))
          (V (Proc.devRef .tc main_arg4)) (V (Proc.devRef .tc main_arg5)) (V (Proc.devRef .tc main_arg6)) := by
  simp only [norm1, TRef.nullary, TRef.unary, TRef.binary, TRef.toBuf, TRef.ofBuf, cast_eq]
  after_results_simp
  rfl

/-- The padded middle array. -/
theorem padMid_read (V : Valuation τ sig (Elt F)) :
    after padMid V (Proc.devRef .tc main_v115) = padded2 (V (Proc.devRef .tc main_v114)) := by
  simp only [padMid, TRef.nullary, TRef.unary, TRef.binary, TRef.toBuf, TRef.ofBuf, cast_eq]
  after_results_simp
  rfl

/-- Kernel row 0 of the second convolution. -/
theorem rowE_read (V : Valuation τ sig (Elt F)) :
    after rowE V (Proc.devRef .tc main_v132) = firstRow2 (V (Proc.devRef .tc main_arg7)) (V (Proc.devRef .tc main_v115)) := by
  simp only [rowE]
  after_results_simp
  rfl

/-- Kernel row 1 of the second convolution. -/
theorem rowF_read (V : Valuation τ sig (Elt F)) :
    after rowF V (Proc.devRef .tc main_v150)
      = nextRow2 1 (V (Proc.devRef .tc main_arg7)) (V (Proc.devRef .tc main_v115)) (V (Proc.devRef .tc main_v132)) := by
  simp only [rowF]
  after_results_simp
  rfl

/-- Kernel row 2 of the second convolution. -/
theorem rowG_read (V : Valuation τ sig (Elt F)) :
    after rowG V (Proc.devRef .tc main_v168)
      = nextRow2 2 (V (Proc.devRef .tc main_arg7)) (V (Proc.devRef .tc main_v115)) (V (Proc.devRef .tc main_v150)) := by
  simp only [rowG]
  after_results_simp
  rfl

/-- The rows to quantise. -/
theorem norm2_read (V : Valuation τ sig (Elt F)) :
    after norm2 V (Proc.devRef .tc main_v189)
      = rows (V (Proc.devRef .tc main_v168)) (V (Proc.devRef .tc main_v114)) (V (Proc.devRef .tc main_arg8))
          (V (Proc.devRef .tc main_arg9)) (V (Proc.devRef .tc main_arg10)) (V (Proc.devRef .tc main_arg11))
          (V (Proc.devRef .tc main_arg12)) := by
  simp only [norm2]
  after_results_simp
  rfl

/-- The distances. -/
theorem dist_read (V : Valuation τ sig (Elt F)) :
    after dist V (Proc.devRef .tc main_v202)
      = distances (V (Proc.devRef .tc main_v189)) (V (Proc.devRef .tc main_arg13)) := by
  simp only [dist]
  after_results_simp
  rfl

/-- The nearest row's number. -/
theorem nearest_read (V : Valuation τ sig (Elt F)) :
    after nearest V (Proc.devRef .tc main_v203) = nearestRow (V (Proc.devRef .tc main_v202)) := by
  simp only [nearest, TRef.nullary, TRef.quaternary, TRef.toBuf, TRef.ofBuf, cast_eq]
  after_results_simp
  rfl

/-- The rows taken. -/
theorem taken_read (V : Valuation τ sig (Elt F)) :
    after taken V (Proc.devRef .tc main_v204)
      = rowsTaken (V (Proc.devRef .tc main_arg13)) (V (Proc.devRef .tc main_v203)) := by
  simp only [taken, TRef.nullary, TRef.unary, TRef.binary, TRef.ternary, TRef.toBuf, TRef.ofBuf, cast_eq]
  after_results_simp
  rfl

/-- Result 1. -/
theorem results_latent (V : Valuation τ sig (Elt F)) :
    after results V (Proc.devRef .tc main_v212)
      = latent (V (Proc.devRef .tc main_v189)) (V (Proc.devRef .tc main_v204)) := by
  simp only [results]
  after_results_simp
  rfl

/-- Result 2. -/
theorem results_numbers (V : Valuation τ sig (Elt F)) :
    after results V (Proc.devRef .tc main_v213) = numbers (V (Proc.devRef .tc main_v203)) := by
  simp only [results]
  after_results_simp
  rfl

/-- Result 3. -/
theorem results_loss (V : Valuation τ sig (Elt F)) :
    after results V (Proc.devRef .tc main_v214)
      = loss (V (Proc.devRef .tc main_v189)) (V (Proc.devRef .tc main_v204)) := by
  simp only [results]
  after_results_simp
  rfl

end Cert.Ref

end
-- ==== Proof.RefValue.lean ====
/- The reference's three results as functions of its fourteen arguments. -/
module

public import proofs.«01_k».proof.Proof.RefRun
public import proofs.«01_k».proof.Proof.RefStages

@[expose] public section

set_option Elab.async false
set_option maxRecDepth 16384
set_option maxHeartbeats 4000000

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-- The first convolution: its four kernel rows. -/
def conv1 (w : FVec F S4x2x4x4 .f32) (xp : FVec F S8x2x514x514 .f32) : FVec F S8x4x256x256 .f32 :=
  nextRow1 3 w xp (nextRow1 2 w xp (nextRow1 1 w xp (firstRow1 w xp)))

/-- The second convolution: its three kernel rows. -/
def conv2 (w : FVec F S4x4x3x3 .f32) (yp : FVec F S8x4x258x258 .f32) : FVec F S8x4x256x256 .f32 :=
  nextRow2 2 w yp (nextRow2 1 w yp (firstRow2 w yp))

/-- The middle array of the arguments held at `V`. -/
def mid (V : Valuation τ sig (Elt F)) : FVec F S8x4x256x256 .f32 :=
  middle (conv1 (V (Proc.devRef .tc main_arg1)) (padded1 (V (Proc.devRef .tc main_arg0)))) (V (Proc.devRef .tc main_arg2))
    (V (Proc.devRef .tc main_arg3)) (V (Proc.devRef .tc main_arg4)) (V (Proc.devRef .tc main_arg5)) (V (Proc.devRef .tc main_arg6))

/-- The rows to quantise of the arguments held at `V`. -/
def flat (V : Valuation τ sig (Elt F)) : FVec F S8x1024x256 .f32 :=
  rows (conv2 (V (Proc.devRef .tc main_arg7)) (padded2 (mid V))) (mid V) (V (Proc.devRef .tc main_arg8))
    (V (Proc.devRef .tc main_arg9)) (V (Proc.devRef .tc main_arg10)) (V (Proc.devRef .tc main_arg11)) (V (Proc.devRef .tc main_arg12))

/-- The nearest rows' numbers of the arguments held at `V`. -/
def picked (V : Valuation τ sig (Elt F)) : IVec S8x1024 32 :=
  nearestRow (distances (flat V) (V (Proc.devRef .tc main_arg13)))

/-- The rows taken of the arguments held at `V`. -/
def chosen (V : Valuation τ sig (Elt F)) : FVec F S8x1024x256 .f32 :=
  rowsTaken (V (Proc.devRef .tc main_arg13)) (picked V)

/-- The contents once the middle array is made. -/
def atMid (V : Valuation τ sig (Elt F)) : Valuation τ sig (Elt F) :=
  after norm1 (after rowD (after rowC (after rowB (after rowA (after padIn V)))))

/-- Those stages leave every buffer they do not write. -/
theorem atMid_keep (V : Valuation τ sig (Elt F)) {r : Ref sig .tc} (h : r ∉ padInW ++ rowAW ++ rowBW ++ rowCW ++ rowDW ++ norm1W) :
    atMid V (Proc.devRef .tc r) = V (Proc.devRef .tc r) := by
  simp only [List.mem_append, not_or] at h
  obtain ⟨⟨⟨⟨⟨h0, h1⟩, h2⟩, h3⟩, h4⟩, h5⟩ := h
  exact (norm1_keep _ h5).trans ((rowD_keep _ h4).trans ((rowC_keep _ h3).trans ((rowB_keep _ h2).trans ((rowA_keep _ h1).trans (padIn_keep _ h0)))))

/-- The middle array is then in its buffer. -/
theorem atMid_mid (V : Valuation τ sig (Elt F)) : atMid V (Proc.devRef .tc main_v114) = mid V := by
  unfold atMid
  rw [norm1_read, rowD_read, rowD_keep _ (r := main_arg2) (by decide), rowD_keep _ (r := main_arg3) (by decide),
    rowD_keep _ (r := main_arg4) (by decide), rowD_keep _ (r := main_arg5) (by decide),
    rowD_keep _ (r := main_arg6) (by decide), rowC_read, rowC_keep _ (r := main_arg2) (by decide),
    rowC_keep _ (r := main_arg3) (by decide), rowC_keep _ (r := main_arg4) (by decide),
    rowC_keep _ (r := main_arg5) (by decide), rowC_keep _ (r := main_arg6) (by decide),
    rowC_keep _ (r := main_arg1) (by decide), rowC_keep _ (r := main_v0) (by decide), rowB_read,
    rowB_keep _ (r := main_arg2) (by decide), rowB_keep _ (r := main_arg3) (by decide),
    rowB_keep _ (r := main_arg4) (by decide), rowB_keep _ (r := main_arg5) (by decide),
    rowB_keep _ (r := main_arg6) (by decide), rowB_keep _ (r := main_arg1) (by decide),
    rowB_keep _ (r := main_v0) (by decide), rowA_read, rowA_keep _ (r := main_arg2) (by decide),
    rowA_keep _ (r := main_arg3) (by decide), rowA_keep _ (r := main_arg4) (by decide),
    rowA_keep _ (r := main_arg5) (by decide), rowA_keep _ (r := main_arg6) (by decide),
    rowA_keep _ (r := main_arg1) (by decide), rowA_keep _ (r := main_v0) (by decide), padIn_read,
    padIn_keep _ (r := main_arg2) (by decide), padIn_keep _ (r := main_arg3) (by decide),
    padIn_keep _ (r := main_arg4) (by decide), padIn_keep _ (r := main_arg5) (by decide),
    padIn_keep _ (r := main_arg6) (by decide), padIn_keep _ (r := main_arg1) (by decide)]
  rfl

/-- The contents once the rows to quantise are made. -/
def atFlat (V : Valuation τ sig (Elt F)) : Valuation τ sig (Elt F) :=
  after norm2 (after rowG (after rowF (after rowE (after padMid (atMid V)))))

/-- Those stages leave every buffer they do not write. -/
theorem atFlat_keep (V : Valuation τ sig (Elt F)) {r : Ref sig .tc} (h : r ∉ padMidW ++ rowEW ++ rowFW ++ rowGW ++ norm2W) :
    atFlat V (Proc.devRef .tc r) = atMid V (Proc.devRef .tc r) := by
  simp only [List.mem_append, not_or] at h
  obtain ⟨⟨⟨⟨h0, h1⟩, h2⟩, h3⟩, h4⟩ := h
  exact (norm2_keep _ h4).trans ((rowG_keep _ h3).trans ((rowF_keep _ h2).trans ((rowE_keep _ h1).trans (padMid_keep _ h0))))

/-- The rows are then in their buffer. -/
theorem atFlat_flat (V : Valuation τ sig (Elt F)) : atFlat V (Proc.devRef .tc main_v189) = flat V := by
  unfold atFlat
  rw [norm2_read, rowG_read, rowG_keep _ (r := main_v114) (by decide), rowG_keep _ (r := main_arg8) (by decide),
    rowG_keep _ (r := main_arg9) (by decide), rowG_keep _ (r := main_arg10) (by decide),
    rowG_keep _ (r := main_arg11) (by decide), rowG_keep _ (r := main_arg12) (by decide), rowF_read,
    rowF_keep _ (r := main_v114) (by decide), rowF_keep _ (r := main_arg8) (by decide),
    rowF_keep _ (r := main_arg9) (by decide), rowF_keep _ (r := main_arg10) (by decide),
    rowF_keep _ (r := main_arg11) (by decide), rowF_keep _ (r := main_arg12) (by decide),
    rowF_keep _ (r := main_arg7) (by decide), rowF_keep _ (r := main_v115) (by decide), rowE_read,
    rowE_keep _ (r := main_v114) (by decide), rowE_keep _ (r := main_arg8) (by decide),
    rowE_keep _ (r := main_arg9) (by decide), rowE_keep _ (r := main_arg10) (by decide),
    rowE_keep _ (r := main_arg11) (by decide), rowE_keep _ (r := main_arg12) (by decide),
    rowE_keep _ (r := main_arg7) (by decide), rowE_keep _ (r := main_v115) (by decide), padMid_read,
    padMid_keep _ (r := main_v114) (by decide), padMid_keep _ (r := main_arg8) (by decide),
    padMid_keep _ (r := main_arg9) (by decide), padMid_keep _ (r := main_arg10) (by decide),
    padMid_keep _ (r := main_arg11) (by decide), padMid_keep _ (r := main_arg12) (by decide),
    padMid_keep _ (r := main_arg7) (by decide), atMid_mid, atMid_keep V (r := main_arg7) (by decide),
    atMid_keep V (r := main_arg8) (by decide), atMid_keep V (r := main_arg9) (by decide),
    atMid_keep V (r := main_arg10) (by decide), atMid_keep V (r := main_arg11) (by decide),
    atMid_keep V (r := main_arg12) (by decide)]
  rfl

/-- The contents once the nearest rows are found. -/
def atPicked (V : Valuation τ sig (Elt F)) : Valuation τ sig (Elt F) :=
  after nearest (after dist (atFlat V))

/-- Those stages leave every buffer they do not write. -/
theorem atPicked_keep (V : Valuation τ sig (Elt F)) {r : Ref sig .tc} (h : r ∉ distW ++ nearestW) :
    atPicked V (Proc.devRef .tc r) = atFlat V (Proc.devRef .tc r) := by
  simp only [List.mem_append, not_or] at h
  obtain ⟨h0, h1⟩ := h
  exact (nearest_keep _ h1).trans (dist_keep _ h0)

/-- The codebook is untouched then. -/
theorem atPicked_book (V : Valuation τ sig (Elt F)) :
    atPicked V (Proc.devRef .tc main_arg13) = V (Proc.devRef .tc main_arg13) :=
  (atPicked_keep V (by decide)).trans ((atFlat_keep V (by decide)).trans (atMid_keep V (by decide)))

/-- The rows to quantise are still in their buffer. -/
theorem atPicked_flat (V : Valuation τ sig (Elt F)) : atPicked V (Proc.devRef .tc main_v189) = flat V :=
  (atPicked_keep V (by decide)).trans (atFlat_flat V)

/-- The numbers are then in their buffer. -/
theorem atPicked_picked (V : Valuation τ sig (Elt F)) : atPicked V (Proc.devRef .tc main_v203) = picked V := by
  unfold atPicked
  rw [nearest_read, dist_read, atFlat_flat, atFlat_keep V (r := main_arg13) (by decide),
    atMid_keep V (r := main_arg13) (by decide)]
  rfl

/-- The last two stages run from there. -/
theorem final_eq (V : Valuation τ sig (Elt F)) : final V = after results (after taken (atPicked V)) := rfl

/-- The first result's buffer ends at the latent array of the arguments. -/
theorem final_latent (V : Valuation τ sig (Elt F)) :
    final V (Proc.devRef .tc main_v212) = latent (flat V) (chosen V) := by
  rw [final_eq, results_latent, taken_read, taken_keep _ (r := main_v189) (by decide), atPicked_flat, atPicked_book,
    atPicked_picked]
  rfl

/-- The second result's buffer ends at the numbers of the arguments. -/
theorem final_numbers (V : Valuation τ sig (Elt F)) :
    final V (Proc.devRef .tc main_v213) = numbers (picked V) := by
  rw [final_eq, results_numbers, taken_keep _ (r := main_v203) (by decide), atPicked_picked]

/-- The third result's buffer ends at the loss of the arguments. -/
theorem final_loss (V : Valuation τ sig (Elt F)) :
    final V (Proc.devRef .tc main_v214) = loss (flat V) (chosen V) := by
  rw [final_eq, results_loss, taken_read, taken_keep _ (r := main_v189) (by decide), atPicked_flat, atPicked_book,
    atPicked_picked]
  rfl

end Cert.Ref

end
-- ==== Proof.Convs.lean ====
/- The two convolutions at an index: the reference's shifted products and the kernel's matrix products are the same sums. -/
module

public import proofs.«01_k».proof.Proof.KerHost
public import proofs.«01_k».proof.Proof.KerPatches1
public import proofs.«01_k».proof.Proof.KerPatches2
public import proofs.«01_k».proof.Proof.RefValue

@[expose] public section

set_option Elab.async false
set_option maxRecDepth 16384

noncomputable section

namespace Cert.Maths

open Cert.KernelIdeal Idealize.ShloMosaic Idealize.ShloMosaic.Tactic Idealize.SL.Sem

/-- One tap of the first convolution at an index. -/
def tapAt1 (w : FVec Ideal S4x2x4x4 .f32) (xp : FVec Ideal S8x2x514x514 .f32) (b : Fin 8) (o : Fin 4) (h v : Fin 256)
    (kh kw : Fin 4) : EReal :=
  ∑ i : Fin 2, w (ix4 o i kh kw) * xp (ix4 b i ⟨kh.val + 2 * h.val, by omega⟩ ⟨kw.val + 2 * v.val, by omega⟩)

/-- One tap of the second convolution at an index. -/
def tapAt2 (w : FVec Ideal S4x4x3x3 .f32) (yp : FVec Ideal S8x4x258x258 .f32) (b : Fin 8) (o : Fin 4) (h v : Fin 256)
    (kh kw : Fin 3) : EReal :=
  ∑ i : Fin 4, w (ix4 o i kh kw) * yp (ix4 b i ⟨kh.val + h.val, by omega⟩ ⟨kw.val + v.val, by omega⟩)

/-- The reference's tap is that. -/
theorem tap1_apply (kh kw : Fin 4) (w : FVec Ideal S4x2x4x4 .f32) (xp : FVec Ideal S8x2x514x514 .f32) (b : Fin 8) (o : Fin 4)
    (h v : Fin 256) : Cert.Ref.tap1 kh kw w xp (ix4 b o h v) = tapAt1 w xp b o h v kh kw := by
  pointwise [Cert.Ref.tap1, tapAt1]

/-- The same of the second convolution. -/
theorem tap2_apply (kh kw : Fin 3) (w : FVec Ideal S4x4x3x3 .f32) (yp : FVec Ideal S8x4x258x258 .f32) (b : Fin 8) (o : Fin 4)
    (h v : Fin 256) : Cert.Ref.tap2 kh kw w yp (ix4 b o h v) = tapAt2 w yp b o h v kh kw := by
  pointwise [Cert.Ref.tap2, tapAt2]

/-- The weights' matrix at a row's tap. -/
theorem weights1_apply (w : FVec Ideal S4x2x4x4 .f32) (o : Fin 4) (ci : Fin 2) (g : Fin 16) :
    Cert.Ker.weights1 w (ix2 o ⟨ci.val * 16 + g.val, by omega⟩)
      = w (ix4 o ci ⟨g.val / 4, by omega⟩ ⟨g.val % 4, by omega⟩) := by
  pointwise [Cert.Ker.weights1]
  simp only [show (ci.val * 16 + g.val) / 4 % 4 = g.val / 4 by omega, show (ci.val * 16 + g.val) % 4 = g.val % 4 by omega]

/-- The same of the second convolution. -/
theorem weights2_apply (w : FVec Ideal S4x4x3x3 .f32) (o ci : Fin 4) (g : Fin 9) :
    Cert.Ker.weights2 w (ix2 o ⟨ci.val * 9 + g.val, by omega⟩)
      = w (ix4 o ci ⟨g.val / 3, by omega⟩ ⟨g.val % 3, by omega⟩) := by
  pointwise [Cert.Ker.weights2]
  simp only [show (ci.val * 9 + g.val) / 3 % 3 = g.val / 3 by omega, show (ci.val * 9 + g.val) % 3 = g.val % 3 by omega]

/-- A sum over `m * n` terms as a double sum. -/
theorem sum_split (m n N : Nat) (hN : m * n = N) (f : Fin N → EReal) :
    ∑ k, f k = ∑ g : Fin n, ∑ i : Fin m, f ⟨i.val * n + g.val, by
      have := Nat.mul_le_mul_right n (Nat.succ_le_of_lt i.isLt)
      have := g.isLt
      rw [Nat.succ_mul] at *
      omega⟩ := by
  subst hN
  rw [Finset.sum_comm, ← Equiv.sum_comp finProdFinEquiv, Fintype.sum_prod_type]
  refine Finset.sum_congr rfl fun i _ => Finset.sum_congr rfl fun g _ => congrArg f (Fin.ext ?_)
  show g.val + n * i.val = i.val * n + g.val
  rw [Nat.mul_comm, Nat.add_comm]

/-- The kernel's first matrix product at an index, tap by tap. -/
theorem product1 (w : FVec Ideal S4x2x4x4 .f32) (xp : FVec Ideal S8x2x514x514 .f32) (b : Fin 8) (o : Fin 4) (h v : Fin 256) :
    ∑ k, Cert.Ker.patches1 xp (ix3 b k ⟨h.val * 256 + v.val, by omega⟩) * Cert.Ker.weights1 w (ix2 o k)
      = ∑ g : Fin 16, tapAt1 w xp b o h v ⟨g.val / 4, by omega⟩ ⟨g.val % 4, by omega⟩ := by
  rw [sum_split 2 16 32 rfl]
  refine Finset.sum_congr rfl fun g _ => Finset.sum_congr rfl fun i _ => ?_
  rw [weights1_apply, Cert.Ker.patches1_apply, mul_comm]

/-- The kernel's second matrix product at an index, tap by tap. -/
theorem product2 (w : FVec Ideal S4x4x3x3 .f32) (yp : FVec Ideal S8x4x258x258 .f32) (b : Fin 8) (o : Fin 4) (h v : Fin 256) :
    ∑ k, Cert.Ker.patches2 yp (ix3 b k ⟨h.val * 256 + v.val, by omega⟩) * Cert.Ker.weights2 w (ix2 o k)
      = ∑ g : Fin 9, tapAt2 w yp b o h v ⟨g.val / 3, by omega⟩ ⟨g.val % 3, by omega⟩ := by
  rw [sum_split 4 9 36 rfl]
  refine Finset.sum_congr rfl fun g _ => Finset.sum_congr rfl fun i _ => ?_
  rw [weights2_apply, Cert.Ker.patches2_apply, mul_comm]
  congr 2
  funext a
  refine Fin.ext ?_
  fin_cases a
  · rfl
  · show (i.val * 9 + g.val) / 9 = i.val
    omega
  · show (i.val * 9 + g.val) % 9 / 3 + h.val = g.val / 3 + h.val
    omega
  · show (i.val * 9 + g.val) % 3 + v.val = g.val % 3 + v.val
    omega

/-- The reference's first convolution at an index is the kernel's product. -/
theorem conv1_apply (w : FVec Ideal S4x2x4x4 .f32) (xp : FVec Ideal S8x2x514x514 .f32) (b : Fin 8) (o : Fin 4) (h v : Fin 256) :
    Cert.Ref.conv1 w xp (ix4 b o h v)
      = ∑ k, Cert.Ker.patches1 xp (ix3 b k ⟨h.val * 256 + v.val, by omega⟩) * Cert.Ker.weights1 w (ix2 o k) := by
  rw [product1]
  simp only [Fin.sum_univ_castSucc, Fin.sum_univ_zero, zero_add]
  have t := fun kh kw => tap1_apply kh kw w xp b o h v
  pointwise [Cert.Ref.conv1, Cert.Ref.firstRow1, Cert.Ref.nextRow1]
  simp only [t]

/-- The reference's second convolution at an index is the kernel's product. -/
theorem conv2_apply (w : FVec Ideal S4x4x3x3 .f32) (yp : FVec Ideal S8x4x258x258 .f32) (b : Fin 8) (o : Fin 4) (h v : Fin 256) :
    Cert.Ref.conv2 w yp (ix4 b o h v)
      = ∑ k, Cert.Ker.patches2 yp (ix3 b k ⟨h.val * 256 + v.val, by omega⟩) * Cert.Ker.weights2 w (ix2 o k) := by
  rw [product2]
  simp only [Fin.sum_univ_castSucc, Fin.sum_univ_zero, zero_add]
  have t := fun kh kw => tap2_apply kh kw w yp b o h v
  pointwise [Cert.Ref.conv2, Cert.Ref.firstRow2, Cert.Ref.nextRow2]
  simp only [t]

end Cert.Maths

end
-- ==== Proof.Scalars.lean ====
/- The scalar formulas both programs compute. -/
module

public import Idealize.ShloMosaic.Lib.Pointwise

@[expose] public section

set_option Elab.async false

noncomputable section

namespace Cert.Maths

open Idealize.ShloMosaic

/-- The small constant added to a variance. -/
def eps : EReal := Ideal.ofBits .f32 0x3727C5AC#32

/-- Normalisation of one value by a mean, a variance, a scale and a shift. -/
def bnorm (v rm rv g be : EReal) : EReal := Ideal.div (v - rm) (Ideal.sqrt (rv + eps)) * g + be

/-- The factor two of a distance. -/
def two : EReal := Ideal.ofBits .f32 0x40000000#32

/-- The squared distance of a row to codebook row `k`, as both programs compute it. -/
def distance (y : Fin 256 → EReal) (cb : Fin 1024 → Fin 256 → EReal) (k : Fin 1024) : EReal :=
  ∑ c, y c * y c - two * ∑ c, y c * cb k c + ∑ c, cb k c * cb k c

/-- The least of 1024 values. -/
def least (d : Fin 1024 → EReal) : EReal := Finset.fold min (Ideal.ofBits .f32 0x7F800000#32) d Finset.univ

/-- The number of the first least value, as the kernel finds it: the least among the positions that hold the least value. -/
def firstAt (d : Fin 1024 → EReal) : BitVec 32 :=
  Finset.fold IntOp.minsi 2147483647#32 (fun k => if d k = least d then BitVec.ofNat 32 k.val else 1024#32) Finset.univ

/-- One where `k` is the number `n`, else zero. -/
def hot (k : Fin 1024) (n : BitVec 32) : EReal :=
  FloatOps.sitofp (F := Ideal) .f32 (BitVec.setWidth 32 (IntOp.cmpi .eq (BitVec.ofNat 32 k.val) n))

end Cert.Maths

end
-- ==== Proof.KerRegion0.lean ====
/- What the first kernel leaves: every element of the middle array from the patches, the weights and the parameters. -/
module

public import proofs.«01_k».proof.Proof.Gen.KernelIdeal.Frame
public import proofs.«01_k».proof.Proof.Scalars
public import Idealize.ShloMosaic.Lib.Pipeline.ValueKit

@[expose] public section

set_option Elab.async false
set_option maxRecDepth 16384

noncomputable section

namespace Cert.Ker

open Cert.KernelIdeal Cert.KernelIdeal.Gen Cert.Maths
open Idealize.ShloMosaic Idealize.ShloMosaic.TcCoe Idealize.ShloMosaic.Tactic
open Idealize.SL Idealize.SL.Sem

/-- The middle array, its last two axes as one, from the patches, the weights as a matrix and the parameter columns. -/
def midOf (P : FVec Ideal S8x32x65536 .bf16) (w : FVec Ideal S4x32 .bf16) (p : FVec Ideal S4x5 .f32) :
    FVec Ideal S8x4x65536 .f32 := fun j =>
  max (bnorm (∑ k, P (ix3 (j 0) k (j 2)) * w (ix2 (j 1) k) + p (ix2 (j 1) 0)) (p (ix2 (j 1) 3)) (p (ix2 (j 1) 4))
    (p (ix2 (j 1) 1)) (p (ix2 (j 1) 2))) 0

/-- The blocks' places: image and column strip of the patches and of the result; the weights and parameters whole. -/
theorem index0 : ∀ t : Fin cfg0.N, win0_0.index t = ![(grid0.coords t 0).val, 0, (grid0.coords t 1).val]
    ∧ win0_1.index t = ![0, 0] ∧ win0_2.index t = ![0, 0]
    ∧ win0_3.index t = ![(grid0.coords t 0).val, 0, (grid0.coords t 1).val] :=
  (by decide +kernel : ∀ t : Fin grid0.N, _)

variable (V : (c : Dev nD) → (b : Ref sig .tc) → Buf (Elt Ideal) ((c : Thread nD τ).loc b))

/-- After the first kernel its result array is the middle array of its three operands. -/
theorem region0 (c : Dev nD) :
    (dat0 V c).arrAt 3 cfg0.N = midOf (V c main_v101) (V c main_v103) (V c main_v109) := by
  refine (dat0 V c).arrAt_eq_of_covers 3 _ (by decide +kernel) fun t hf y => ?_
  obtain ⟨e0, e1, e2, e3⟩ := index0 t
  blk_simp
  rw [after0_3]
  frame_out
  pointwise [k0_pay1, midOf, bnorm, eps]
  blk_point [iblk0, e0, e1, e2, e3]

end Cert.Ker

end
-- ==== Proof.KerRegion1.lean ====
/- What the second kernel leaves: every element from the patches, the middle array, the weights and the parameters. -/
module

public import proofs.«01_k».proof.Proof.Gen.KernelIdeal.Frame
public import proofs.«01_k».proof.Proof.Scalars
public import Idealize.ShloMosaic.Lib.Pipeline.ValueKit

@[expose] public section

set_option Elab.async false
set_option maxRecDepth 16384

noncomputable section

namespace Cert.Ker

open Cert.KernelIdeal Cert.KernelIdeal.Gen Cert.Maths
open Idealize.ShloMosaic Idealize.ShloMosaic.TcCoe Idealize.ShloMosaic.Tactic
open Idealize.SL Idealize.SL.Sem

/-- The array before quantisation, its last two axes as one: the second convolution, its bias, the middle array added, normalised. -/
def topOf (P : FVec Ideal S8x36x65536 .bf16) (y : FVec Ideal S8x4x65536 .f32) (w : FVec Ideal S4x36 .bf16)
    (p : FVec Ideal S4x5 .f32) : FVec Ideal S8x4x65536 .f32 := fun j =>
  bnorm (∑ k, P (ix3 (j 0) k (j 2)) * w (ix2 (j 1) k) + p (ix2 (j 1) 0) + y (ix3 (j 0) (j 1) (j 2)))
    (p (ix2 (j 1) 3)) (p (ix2 (j 1) 4)) (p (ix2 (j 1) 1)) (p (ix2 (j 1) 2))

/-- The blocks' places: image and column strip of the patches, of the middle array and of the result; the rest whole. -/
theorem index1 : ∀ t : Fin cfg1.N, win1_0.index t = ![(grid1.coords t 0).val, 0, (grid1.coords t 1).val]
    ∧ win1_1.index t = ![(grid1.coords t 0).val, 0, (grid1.coords t 1).val]
    ∧ win1_2.index t = ![0, 0] ∧ win1_3.index t = ![0, 0]
    ∧ win1_4.index t = ![(grid1.coords t 0).val, 0, (grid1.coords t 1).val] :=
  (by decide +kernel : ∀ t : Fin grid1.N, _)

variable (V : (c : Dev nD) → (b : Ref sig .tc) → Buf (Elt Ideal) ((c : Thread nD τ).loc b))

/-- After the second kernel its result array is that array of its four operands. -/
theorem region1 (c : Dev nD) :
    (dat1 V c).arrAt 4 cfg1.N = topOf (V c main_v226) (V c main_v235) (V c main_v228) (V c main_v234) := by
  refine (dat1 V c).arrAt_eq_of_covers 4 _ (by decide +kernel) fun t hf y => ?_
  obtain ⟨e0, e1, e2, e3, e4⟩ := index1 t
  blk_simp
  rw [after1_4]
  frame_out
  pointwise [k1_pay1, topOf, bnorm, eps]
  blk_point [iblk1, e0, e1, e2, e3, e4]

end Cert.Ker

end
-- ==== Proof.KerRegion2.lean ====
/- What the third kernel leaves: the nearest codebook rows' numbers, those rows by a product, and the distances' sums. -/
module

public import proofs.«01_k».proof.Proof.Gen.KernelIdeal.Frame
public import proofs.«01_k».proof.Proof.Scalars
public import Idealize.ShloMosaic.Lib.Pipeline.ValueKit

@[expose] public section

set_option Elab.async false
set_option maxRecDepth 16384

noncomputable section

namespace Cert.Ker

open Cert.KernelIdeal Cert.KernelIdeal.Gen Cert.Maths
open Idealize.ShloMosaic Idealize.ShloMosaic.TcCoe Idealize.ShloMosaic.Tactic
open Idealize.SL Idealize.SL.Sem

/-- Row `n` of image `b`. -/
def rowOf (y : FVec Ideal S8x1024x256 .f32) (b : Fin 8) (n : Fin 1024) : Fin 256 → EReal := fun c => y (ix3 b n c)

/-- The codebook's rows. -/
def bookOf (cb : FVec Ideal S1024x256 .f32) : Fin 1024 → Fin 256 → EReal := fun k c => cb (ix2 k c)

/-- The numbers the kernel finds. -/
def codesOf (y : FVec Ideal S8x1024x256 .f32) (cb : FVec Ideal S1024x256 .f32) : IVec S8x1x1024 32 := fun j =>
  firstAt (distance (rowOf y (j 0) (j 2)) (bookOf cb))

/-- The rows the kernel makes: the transposed codebook times the numbers' indicators. -/
def latentOf (y : FVec Ideal S8x1024x256 .f32) (cb : FVec Ideal S1024x256 .f32) (cbt : FVec Ideal S256x1024 .f32) :
    FVec Ideal S8x256x1024 .f32 := fun j =>
  ∑ k, cbt (ix2 (j 1) k) * hot k (firstAt (distance (rowOf y (j 0) (j 2)) (bookOf cb)))

/-- The sum over an image's rows of the least distance. -/
def sumsOf (y : FVec Ideal S8x1024x256 .f32) (cb : FVec Ideal S1024x256 .f32) : FVec Ideal S8x1x128 .f32 := fun j =>
  ∑ n, ∑ _z : Fin 1, least (distance (rowOf y (j 0) n) (bookOf cb))

/-- One block's distances. -/
theorem distances_apply (y : FVec Ideal S1x1024x256 .f32) (cb : FVec Ideal S1024x256 .f32) (n k : Fin 1024) :
    k2_pay2 (F := Ideal) y cb (ix2 n k) = distance (fun c => y (ix3 0 n c)) (bookOf cb) k := by
  pointwise [k2_pay2, distance, two, bookOf]

/-- One block's least distances. -/
theorem least_apply (y : FVec Ideal S1x1024x256 .f32) (cb : FVec Ideal S1024x256 .f32) (n : Fin 1024) (z : Fin 1) :
    k2_pay3 (F := Ideal) y cb (ix2 n z) = least (distance (fun c => y (ix3 0 n c)) (bookOf cb)) := by
  pointwise [k2_pay3]
  simp only [distances_apply]
  rfl

/-- One block's numbers. -/
theorem codes_apply (y : FVec Ideal S1x1024x256 .f32) (cb : FVec Ideal S1024x256 .f32) (n : Fin 1024) (z : Fin 1) :
    k2_pay4 (F := Ideal) y cb (ix2 z n) = firstAt (distance (fun c => y (ix3 0 n c)) (bookOf cb)) := by
  pointwise [k2_pay4]
  simp only [distances_apply, least_apply]
  rfl

/-- One block's rows. -/
theorem rows_apply (y : FVec Ideal S1x1024x256 .f32) (cb : FVec Ideal S1024x256 .f32) (cbt : FVec Ideal S256x1024 .f32)
    (z : Fin 1) (c : Fin 256) (n : Fin 1024) :
    k2_pay5 (F := Ideal) y cb cbt (ix3 z c n)
      = ∑ k, cbt (ix2 c k) * hot k (firstAt (distance (fun c => y (ix3 0 n c)) (bookOf cb))) := by
  pointwise [k2_pay5]
  simp only [codes_apply]
  rfl

/-- One block's sum of least distances. -/
theorem sum_apply (m : FVec Ideal S1024x1 .f32) (z d : Fin 1) (l : Fin 128) :
    k2_pay1 (F := Ideal) m (ix3 z d l) = ∑ n : Fin 1024, ∑ _z : Fin 1, m (ix2 n 0) := by
  pointwise [k2_pay1]

/-- The blocks' places: one image of the rows and of each result; the codebooks whole. -/
theorem index2 : ∀ t : Fin cfg2.N, win2_0.index t = ![(grid2.coords t 0).val, 0, 0]
    ∧ win2_1.index t = ![0, 0] ∧ win2_2.index t = ![0, 0]
    ∧ win2_3.index t = ![(grid2.coords t 0).val, 0, 0] ∧ win2_4.index t = ![(grid2.coords t 0).val, 0, 0]
    ∧ win2_5.index t = ![(grid2.coords t 0).val, 0, 0] :=
  (by decide +kernel : ∀ t : Fin grid2.N, _)

variable (V : (c : Dev nD) → (b : Ref sig .tc) → Buf (Elt Ideal) ((c : Thread nD τ).loc b))

/-- A block's row is the array's row of the block's image. -/
theorem block_row (c : Dev nD) (t : Fin cfg2.N) (n n' : Fin 1024) (b : Fin 8) (hb : b.val = (grid2.coords t 0).val)
    (hn : n'.val = n.val) : (fun k => iblk2 V c 0 t (ix3 0 n k)) = rowOf (V c main_v239) b n' := by
  funext k
  have e0 := (index2 t).1
  unfold rowOf
  blk_ext [iblk2, e0]

/-- The codebook's block is the codebook. -/
theorem block_book (c : Dev nD) (t : Fin cfg2.N) : iblk2 V c 1 t = V c main_arg13 := by
  funext k
  have e1 := (index2 t).2.1
  blk_ext [iblk2, e1]

/-- The transposed codebook's block is that codebook. -/
theorem block_turned (c : Dev nD) (t : Fin cfg2.N) : iblk2 V c 2 t = V c main_v240 := by
  funext k
  have e2 := (index2 t).2.2.1
  blk_ext [iblk2, e2]

/-- What a point leaves in the first result's block is the rows under the block. -/
theorem latent_at (c : Dev nD) (t : Fin cfg2.N) (z : Fin 1) (d : Fin 256) (n : Fin 1024) (i : S8x256x1024.Idx)
    (h0 : (i 0).val = (grid2.coords t 0).val) (h1 : (i 1).val = d.val) (h2 : (i 2).val = n.val) :
    k2_pay5 (F := Ideal) (iblk2 V c 0 t) (iblk2 V c 1 t) (iblk2 V c 2 t) (ix3 z d n)
      = latentOf (V c main_v239) (V c main_arg13) (V c main_v240) i := by
  obtain rfl : d = i 1 := Fin.ext h1.symm
  refine (rows_apply _ _ _ z _ n).trans ?_
  rw [block_book, block_turned]
  unfold latentOf
  rw [block_row V c t n (i 2) (i 0) h0 h2]

/-- What a point leaves in the second result's block is the numbers under the block. -/
theorem codes_at (c : Dev nD) (t : Fin cfg2.N) (z d : Fin 1) (n : Fin 1024) (i : S8x1x1024.Idx)
    (h0 : (i 0).val = (grid2.coords t 0).val) (h2 : (i 2).val = n.val) :
    k2_pay6 (F := Ideal) (iblk2 V c 0 t) (iblk2 V c 1 t) (ix3 z d n) = codesOf (V c main_v239) (V c main_arg13) i := by
  pointwise [k2_pay6]
  rw [codes_apply, block_book]
  unfold codesOf
  rw [block_row V c t n (i 2) (i 0) h0 h2]

/-- What a point leaves in the third result's block is the sums under the block. -/
theorem sums_at (c : Dev nD) (t : Fin cfg2.N) (z d : Fin 1) (n : Fin 128) (i : S8x1x128.Idx)
    (h0 : (i 0).val = (grid2.coords t 0).val) :
    k2_pay1 (F := Ideal) (k2_pay3 (iblk2 V c 0 t) (iblk2 V c 1 t)) (ix3 z d n) = sumsOf (V c main_v239) (V c main_arg13) i := by
  rw [sum_apply]
  unfold sumsOf
  refine Finset.sum_congr rfl fun n' _ => Finset.sum_congr rfl fun z' _ => ?_
  rw [least_apply, block_book, block_row V c t n' n' (i 0) h0 rfl]

/-- After the third kernel its first result array is the rows. -/
theorem region2_latent (c : Dev nD) :
    (dat2 V c).arrAt 3 cfg2.N = latentOf (V c main_v239) (V c main_arg13) (V c main_v240) := by
  refine (dat2 V c).arrAt_eq_of_covers 3 _ (by decide +kernel) fun t hf y => ?_
  obtain ⟨-, -, -, e3, -, -⟩ := index2 t
  blk_simp
  rw [after2_3]
  frame_out
  obtain ⟨z, d, n, rfl⟩ : ∃ (z : Fin 1) (d : Fin 256) (n : Fin 1024), y = ix3 z d n := ⟨y 0, y 1, y 2, eq_ix3 y⟩
  refine latent_at V c t z d n _ ?_ ?_ ?_
  · blk_simp [e3]
  · blk_simp [e3]
  · blk_simp [e3]

/-- After the third kernel its second result array is the numbers. -/
theorem region2_codes (c : Dev nD) :
    (dat2 V c).arrAt 4 cfg2.N = codesOf (V c main_v239) (V c main_arg13) := by
  refine (dat2 V c).arrAt_eq_of_covers 4 _ (by decide +kernel) fun t hf y => ?_
  obtain ⟨-, -, -, -, e4, -⟩ := index2 t
  blk_simp
  rw [after2_4]
  frame_out
  obtain ⟨z, d, n, rfl⟩ : ∃ (z : Fin 1) (d : Fin 1) (n : Fin 1024), y = ix3 z d n := ⟨y 0, y 1, y 2, eq_ix3 y⟩
  refine codes_at V c t z d n _ ?_ ?_
  · blk_simp [e4]
  · blk_simp [e4]

/-- After the third kernel its third result array is the sums. -/
theorem region2_sums (c : Dev nD) :
    (dat2 V c).arrAt 5 cfg2.N = sumsOf (V c main_v239) (V c main_arg13) := by
  refine (dat2 V c).arrAt_eq_of_covers 5 _ (by decide +kernel) fun t hf y => ?_
  obtain ⟨-, -, -, -, -, e5⟩ := index2 t
  blk_simp
  rw [after2_5]
  frame_out
  obtain ⟨z, d, n, rfl⟩ : ∃ (z : Fin 1) (d : Fin 1) (n : Fin 128), y = ix3 z d n := ⟨y 0, y 1, y 2, eq_ix3 y⟩
  refine sums_at V c t z d n _ ?_
  blk_simp [e5]

end Cert.Ker

end
-- ==== Proof.KerValue.lean ====
/- What the kernel's program leaves in its result buffers, as functions of the arguments. -/
module

public import proofs.«01_k».proof.Proof.KerHost
public import proofs.«01_k».proof.Proof.KerPatches1
public import proofs.«01_k».proof.Proof.KerPatches2
public import proofs.«01_k».proof.Proof.KerRegion0
public import proofs.«01_k».proof.Proof.KerRegion1
public import proofs.«01_k».proof.Proof.KerRegion2

@[expose] public section

set_option Elab.async false
set_option maxRecDepth 16384

noncomputable section

namespace Cert.Ker

open Cert.KernelIdeal Cert.KernelIdeal.Gen
open Idealize.ShloMosaic Idealize.ShloMosaic.TcCoe
open Idealize.SL Idealize.SL.Sem Idealize.ShloMosaic.StableHlo

/-- The middle array of the input and the first layer's parameters. -/
def midArr (x : FVec Ideal S8x2x512x512 .f32) (w : FVec Ideal S4x2x4x4 .f32) (b g be rm rv : FVec Ideal S4 .f32) :
    FVec Ideal S8x4x256x256 .f32 :=
  shapeCast S8x4x256x256 (midOf (patches1 (padded1 x)) (weights1 w) (columns b g be rm rv)) shapeCasts_S8x4x65536_S8x4x256x256

/-- The rows to quantise, of the middle array and the second layer's parameters. -/
def flatArr (y : FVec Ideal S8x4x256x256 .f32) (w : FVec Ideal S4x4x3x3 .f32) (b g be rm rv : FVec Ideal S4 .f32) :
    FVec Ideal S8x1024x256 .f32 :=
  laidOut (topOf (patches2 (padded2 y)) (shapeCast S8x4x65536 y shapeCasts_S8x4x256x256_S8x4x65536) (weights2 w)
    (columns b g be rm rv))

/-- The codebook with rows and columns exchanged. -/
def turned (cb : FVec Ideal S1024x256 .f32) : FVec Ideal S256x1024 .f32 :=
  transpose S256x1024 [1, 0] cb transposes_S1024x256_S256x1024_1_0

variable (m : (ℓ : Loc nD τ sig) → Buf (Elt Ideal) ℓ) (ρ : Dev nD → PrngReg) (c : Dev nD)

/-- The middle array of the arguments in memory. -/
def midAt : FVec Ideal S8x4x256x256 .f32 :=
  midArr (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6))

/-- The rows to quantise of the arguments in memory. -/
def flatAt : FVec Ideal S8x1024x256 .f32 :=
  flatArr (midAt m c) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12))

/-- The first kernel's result, reshaped, is the middle array. -/
theorem mid_done : shapeCast S8x4x256x256 (W4 m ρ c (Proc.devRef .tc main_v110) : FVec Ideal S8x4x65536 .f32)
    shapeCasts_S8x4x65536_S8x4x256x256 = midAt m c := by
  have h : W4 m ρ c (Proc.devRef .tc main_v110) = _ := (W4_arr m ρ c 3).trans (region0 (V3 m ρ) c)
  have e0 : V3 m ρ c main_v101 = patches1 (F := Ideal) (padded1 (m ((c.tc : Thread nD τ).loc main_arg0))) := by
    refine (patches1_read (F := Ideal) (W2 m ρ c)).trans ?_
    rw [show W2 m ρ c (Proc.devRef .tc main_v0) = _ from padded1_read (F := Ideal) (W0 m ρ c)]
  have e1 : V3 m ρ c main_v103 = weights1 (F := Ideal) (m ((c.tc : Thread nD τ).loc main_arg1)) :=
    (weights1_read (F := Ideal) (W2 m ρ c)).trans (congrArg (weights1 (F := Ideal)) (W2_args m ρ c main_arg1 (by decide)))
  have e2 : V3 m ρ c main_v109 = columns (F := Ideal) _ _ _ _ _ := columns1_read (F := Ideal) (W2 m ρ c)
  rw [W2_args m ρ c main_arg2 (by decide), W2_args m ρ c main_arg3 (by decide), W2_args m ρ c main_arg4 (by decide),
    W2_args m ρ c main_arg5 (by decide), W2_args m ρ c main_arg6 (by decide)] at e2
  rw [h, e0, e1, e2]
  rfl

/-- The third kernel's first operand is the rows to quantise. -/
theorem flat_done : V9 m ρ c main_v239 = flatAt m c := by
  have h : W8 m ρ c (Proc.devRef .tc main_v236) = _ := (W8_arr m ρ c 4).trans (region1 (V7 m ρ) c)
  have e0 : V7 m ρ c main_v226 = patches2 (F := Ideal) (padded2 (midAt m c)) :=
    (patches2_read (F := Ideal) (W6 m ρ c)).trans (congrArg (patches2 (F := Ideal)) ((padded2_read (F := Ideal) (W4 m ρ c)).trans (congrArg (padded2 (F := Ideal)) (mid_done m ρ c))))
  have e1 : V7 m ρ c main_v235 = shapeCast S8x4x65536 (midAt m c) shapeCasts_S8x4x256x256_S8x4x65536 := by
    refine (middle_read (F := Ideal) (W6 m ρ c)).trans ?_
    rw [W6_of m ρ c main_v111 (by decide)]
    rw [show W5 m ρ c (Proc.devRef .tc main_v111) = _ from reshaped_read (F := Ideal) (W4 m ρ c), mid_done]
  have e2 : V7 m ρ c main_v228 = weights2 (F := Ideal) (m ((c.tc : Thread nD τ).loc main_arg7)) := by
    refine (weights2_read (F := Ideal) (W6 m ρ c)).trans ?_
    rw [W6_args m ρ c main_arg7 (by decide)]
  have e3 : V7 m ρ c main_v234 = columns (F := Ideal) _ _ _ _ _ := columns2_read (F := Ideal) (W6 m ρ c)
  rw [W6_args m ρ c main_arg8 (by decide), W6_args m ρ c main_arg9 (by decide), W6_args m ρ c main_arg10 (by decide),
    W6_args m ρ c main_arg11 (by decide), W6_args m ρ c main_arg12 (by decide)] at e3
  refine (laidOut_read (F := Ideal) (W8 m ρ c)).trans ?_
  rw [h, e0, e1, e2, e3]
  rfl

/-- The codebook at the third kernel's entry. -/
theorem book_there : V9 m ρ c main_arg13 = m ((c.tc : Thread nD τ).loc main_arg13) :=
  W9_args m ρ c main_arg13 (by decide)

/-- The third kernel's last operand is the codebook turned. -/
theorem turned_there : V9 m ρ c main_v240 = turned (m ((c.tc : Thread nD τ).loc main_arg13)) :=
  (turned_read (F := Ideal) (W8 m ρ c)).trans (congrArg (turned) (W8_args m ρ c main_arg13 (by decide)))

/-- The first result's buffer at the end. -/
theorem result_latent : W11 m ρ c (Proc.devRef .tc main_v241_0)
    = latentOf (flatAt m c) (m ((c.tc : Thread nD τ).loc main_arg13)) (turned (m ((c.tc : Thread nD τ).loc main_arg13))) := by
  refine (W11_of m ρ c main_v241_0 (by decide)).trans ((W10_arr m ρ c 3).trans ((region2_latent (V9 m ρ) c).trans ?_))
  rw [flat_done, book_there, turned_there]

/-- The second result's buffer at the end. -/
theorem result_numbers : W11 m ρ c (Proc.devRef .tc main_v243)
    = numbersOf (codesOf (flatAt m c) (m ((c.tc : Thread nD τ).loc main_arg13))) := by
  refine (numbers_read (F := Ideal) (W10 m ρ c)).trans (congrArg numbersOf ((W10_arr m ρ c 4).trans ((region2_codes (V9 m ρ) c).trans ?_)))
  rw [flat_done, book_there]

/-- The third result's buffer at the end. -/
theorem result_loss : W11 m ρ c (Proc.devRef .tc main_v249)
    = lossOf (sumsOf (flatAt m c) (m ((c.tc : Thread nD τ).loc main_arg13))) := by
  refine (loss_read (F := Ideal) (W10 m ρ c)).trans (congrArg (lossOf (F := Ideal)) ((W10_arr m ρ c 5).trans ((region2_sums (V9 m ρ) c).trans ?_)))
  rw [flat_done, book_there]

end Cert.Ker

end
-- ==== Proof.Layers.lean ====
/- The two layers: the kernel's middle array and rows to quantise are the reference's. -/
module

public import proofs.«01_k».proof.Proof.Convs
public import proofs.«01_k».proof.Proof.KerValue

@[expose] public section

set_option Elab.async false
set_option maxRecDepth 16384

noncomputable section

namespace Cert.Maths

open Cert.KernelIdeal Idealize.ShloMosaic Idealize.ShloMosaic.Tactic Idealize.SL.Sem

/-- Two arrays of rank 4 that agree at every four coordinates are one. -/
theorem funext4 {α : Type} {m n p q : Nat} {f g : (⟨4, ![m, n, p, q]⟩ : Shape).Idx → α}
    (H : ∀ a b c d, f (ix4 a b c d) = g (ix4 a b c d)) : f = g := by
  funext j
  rw [eq_ix4 j]
  exact H _ _ _ _

/-- Two arrays of rank 3 that agree at every three coordinates are one. -/
theorem funext3 {α : Type} {m n p : Nat} {f g : (⟨3, ![m, n, p]⟩ : Shape).Idx → α}
    (H : ∀ a b c, f (ix3 a b c) = g (ix3 a b c)) : f = g := by
  funext j
  rw [eq_ix3 j]
  exact H _ _ _

/-- The parameters' columns at an index. -/
theorem columns_apply (a b c d e : FVec Ideal S4 .f32) (o : Fin 4) :
    Cert.Ker.columns a b c d e (ix2 o 0) = a (ix1 o) ∧ Cert.Ker.columns a b c d e (ix2 o 1) = b (ix1 o)
      ∧ Cert.Ker.columns a b c d e (ix2 o 2) = c (ix1 o) ∧ Cert.Ker.columns a b c d e (ix2 o 3) = d (ix1 o)
      ∧ Cert.Ker.columns a b c d e (ix2 o 4) = e (ix1 o) := by
  refine ⟨?_, ?_, ?_, ?_, ?_⟩
  · pointwise [Cert.Ker.columns]
  · pointwise [Cert.Ker.columns]
  · pointwise [Cert.Ker.columns]
  · pointwise [Cert.Ker.columns]
  · pointwise [Cert.Ker.columns]

/-- Both programs pad alike. -/
theorem padded1_eq (x : FVec Ideal S8x2x512x512 .f32) : Cert.Ref.padded1 x = Cert.Ker.padded1 x := rfl

/-- Both programs pad alike. -/
theorem padded2_eq (y : FVec Ideal S8x4x256x256 .f32) : Cert.Ref.padded2 y = Cert.Ker.padded2 y := rfl

/-- The reference's normalisation at an index. -/
theorem normed_apply (y : FVec Ideal S8x4x256x256 .f32) (g be rm rv : FVec Ideal S4 .f32) (b : Fin 8) (o : Fin 4) (h v : Fin 256) :
    Cert.Ref.normed y g be rm rv (ix4 b o h v)
      = bnorm (y (ix4 b o h v)) (rm (ix1 o)) (rv (ix1 o)) (g (ix1 o)) (be (ix1 o)) := by
  pointwise [Cert.Ref.normed, Cert.Ref.channel, Cert.Ref.spread, bnorm, eps]

/-- The reference's middle array at an index. -/
theorem middle_apply (y : FVec Ideal S8x4x256x256 .f32) (bi g be rm rv : FVec Ideal S4 .f32) (b : Fin 8) (o : Fin 4)
    (h v : Fin 256) : Cert.Ref.middle y bi g be rm rv (ix4 b o h v)
      = max (bnorm (y (ix4 b o h v) + bi (ix1 o)) (rm (ix1 o)) (rv (ix1 o)) (g (ix1 o)) (be (ix1 o))) 0 := by
  have t := fun y => normed_apply y g be rm rv b o h v
  pointwise [Cert.Ref.middle]
  rw [t]
  pointwise [Cert.Ref.channel]

/-- The reference's rows at an index. -/
theorem rows_apply (y y1 : FVec Ideal S8x4x256x256 .f32) (bi g be rm rv : FVec Ideal S4 .f32) (b : Fin 8) (n : Fin 1024)
    (c : Fin 256) : Cert.Ref.rows y y1 bi g be rm rv (ix3 b n c)
      = bnorm (y (ix4 b ⟨n.val / 256, by omega⟩ c ⟨n.val % 256, by omega⟩) + bi (ix1 ⟨n.val / 256, by omega⟩)
          + y1 (ix4 b ⟨n.val / 256, by omega⟩ c ⟨n.val % 256, by omega⟩)) (rm (ix1 ⟨n.val / 256, by omega⟩))
          (rv (ix1 ⟨n.val / 256, by omega⟩)) (g (ix1 ⟨n.val / 256, by omega⟩)) (be (ix1 ⟨n.val / 256, by omega⟩)) := by
  have t := fun y => normed_apply y g be rm rv b ⟨n.val / 256, by omega⟩ c ⟨n.val % 256, by omega⟩
  pointwise [Cert.Ref.rows]
  rw [t]
  pointwise [Cert.Ref.channel]

/-- The two middle arrays are one. -/
theorem middle_eq (x : FVec Ideal S8x2x512x512 .f32) (w : FVec Ideal S4x2x4x4 .f32) (bi g be rm rv : FVec Ideal S4 .f32) :
    Cert.Ker.midArr x w bi g be rm rv = Cert.Ref.middle (Cert.Ref.conv1 w (Cert.Ref.padded1 x)) bi g be rm rv := by
  refine funext4 fun b o h v => ?_
  rw [middle_apply, conv1_apply, padded1_eq]
  obtain ⟨e0, e1, e2, e3, e4⟩ := columns_apply bi g be rm rv o
  rw [← e0, ← e1, ← e2, ← e3, ← e4]
  pointwise [Cert.Ker.midArr]
  rfl

/-- The kernel's rows at an index. -/
theorem laidOut_apply (r : FVec Ideal S8x4x65536 .f32) (b : Fin 8) (n : Fin 1024) (c : Fin 256) :
    Cert.Ker.laidOut r (ix3 b n c) = r (ix3 b ⟨n.val / 256, by omega⟩ ⟨c.val * 256 + n.val % 256, by omega⟩) := by
  pointwise [Cert.Ker.laidOut]

/-- The middle array with its last two axes as one, at an index. -/
theorem joined_apply (y : FVec Ideal S8x4x256x256 .f32) (b : Fin 8) (o : Fin 4) (h v : Fin 256) :
    shapeCast S8x4x65536 y Cert.KernelIdeal.Facts₀.shapeCasts_S8x4x256x256_S8x4x65536 (ix3 b o ⟨h.val * 256 + v.val, by omega⟩)
      = y (ix4 b o h v) := by
  pointwise []

/-- The two arrays of rows are one. -/
theorem rows_eq (y : FVec Ideal S8x4x256x256 .f32) (w : FVec Ideal S4x4x3x3 .f32) (bi g be rm rv : FVec Ideal S4 .f32) :
    Cert.Ker.flatArr y w bi g be rm rv = Cert.Ref.rows (Cert.Ref.conv2 w (Cert.Ref.padded2 y)) y bi g be rm rv := by
  refine funext3 fun b n c => ?_
  rw [rows_apply, conv2_apply, padded2_eq]
  obtain ⟨e0, e1, e2, e3, e4⟩ := columns_apply bi g be rm rv ⟨n.val / 256, by omega⟩
  rw [← e0, ← e1, ← e2, ← e3, ← e4, ← joined_apply y b ⟨n.val / 256, by omega⟩ c ⟨n.val % 256, by omega⟩]
  unfold Cert.Ker.flatArr
  rw [laidOut_apply]
  rfl

end Cert.Maths

end
-- ==== Proof.Nearest.lean ====
/- The first least of 1024 values: both programs' ways of finding it, and what its number selects. -/
module

public import proofs.«01_k».proof.Proof.Scalars

@[expose] public section

set_option Elab.async false

noncomputable section

namespace Cert.Maths

open Idealize.ShloMosaic

/-- There is a first least value. -/
theorem exists_first (d : Fin 1024 → EReal) : ∃ k, (∀ j, d k ≤ d j) ∧ ∀ j, d j = d k → k ≤ j := by
  obtain ⟨k, -, hk⟩ := Finset.exists_min_image Finset.univ d ⟨0, Finset.mem_univ _⟩
  obtain ⟨k', hk', hmin⟩ := Finset.exists_min_image (Finset.univ.filter fun j => d j = d k) id ⟨k, by simp⟩
  have e : d k' = d k := (Finset.mem_filter.mp hk').2
  refine ⟨k', fun j => e ▸ hk j (Finset.mem_univ j), fun j hj => hmin j ?_⟩
  exact Finset.mem_filter.mpr ⟨Finset.mem_univ _, hj.trans e⟩

/-- The position of the first least value. -/
def first (d : Fin 1024 → EReal) : Fin 1024 := (exists_first d).choose

theorem first_le (d : Fin 1024 → EReal) (j : Fin 1024) : d (first d) ≤ d j := (exists_first d).choose_spec.1 j

theorem first_first (d : Fin 1024 → EReal) (j : Fin 1024) (h : d j = d (first d)) : first d ≤ j :=
  (exists_first d).choose_spec.2 j h

/-- The bit pattern of plus infinity is the greatest value. -/
theorem ofBits_top : Ideal.ofBits .f32 0x7F800000#32 = ⊤ := by
  simp [Ideal.ofBits, Ideal.ieee]

/-- The least value is the one at that position. -/
theorem least_eq (d : Fin 1024 → EReal) : least d = d (first d) := by
  unfold least
  rw [ofBits_top]
  apply le_antisymm
  · exact Finset.fold_min_le _ |>.mpr (Or.inr ⟨first d, Finset.mem_univ _, le_rfl⟩)
  · exact Finset.le_fold_min _ |>.mpr ⟨le_top, fun j _ => first_le d j⟩

/-- A signed minimum read as an integer. -/
theorem toInt_minsi (x y : BitVec 32) : (IntOp.minsi x y).toInt = min x.toInt y.toInt := by
  unfold IntOp.minsi
  split
  · next h => exact (min_eq_left (le_of_lt (BitVec.slt_iff_toInt_lt.mp h))).symm
  · next h => exact (min_eq_right (not_lt.mp fun h' => h (BitVec.slt_iff_toInt_lt.mpr h'))).symm

/-- A number below 1024 read as an integer. -/
theorem toInt_small (k : Nat) (h : k < 2048) : (BitVec.ofNat 32 k).toInt = (k : Int) := by
  rw [BitVec.toInt_eq_toNat_of_lt] <;> rw [BitVec.toNat_ofNat, Nat.mod_eq_of_lt (by omega)]
  omega

/-- The kernel's number is the first least value's position. -/
theorem firstAt_eq (d : Fin 1024 → EReal) : firstAt d = BitVec.ofNat 32 (first d).val := by
  apply BitVec.eq_of_toInt_eq
  unfold firstAt
  rw [← Finset.fold_hom (op := IntOp.minsi) (op' := min) (m := BitVec.toInt) toInt_minsi]
  simp only [least_eq]
  rw [toInt_small (first d).val (by omega)]
  have e : ∀ k : Fin 1024, (if d k = d (first d) then BitVec.ofNat 32 k.val else 1024#32).toInt
      = if d k = d (first d) then (k.val : Int) else 1024 := by
    intro k
    split
    · exact toInt_small _ (by omega)
    · rfl
  simp only [e]
  apply le_antisymm
  · exact Finset.fold_min_le _ |>.mpr (Or.inr ⟨first d, Finset.mem_univ _, by simp⟩)
  · refine Finset.le_fold_min _ |>.mpr ⟨?_, fun k _ => ?_⟩
    · have := (first d).isLt
      rw [show (2147483647#32).toInt = 2147483647 from rfl]; omega
    · split
      · next h => exact_mod_cast first_first d k h
      · have := (first d).isLt; omega

/-- The indicator is one at the number's own position and zero elsewhere. -/
theorem hot_eq (k n : Fin 1024) : hot k (BitVec.ofNat 32 n.val) = if k = n then 1 else 0 := by
  have e : IntOp.cmpi .eq (BitVec.ofNat 32 k.val) (BitVec.ofNat 32 n.val) = if k = n then 1#1 else 0#1 := by
    show BitVec.ofBool (BitVec.ofNat 32 k.val == BitVec.ofNat 32 n.val) = _
    split
    · next h => subst h; simp
    · next h =>
      have : BitVec.ofNat 32 k.val ≠ BitVec.ofNat 32 n.val := fun h' => h (Fin.ext (by
        have := congrArg BitVec.toNat h'
        rwa [BitVec.toNat_ofNat, BitVec.toNat_ofNat, Nat.mod_eq_of_lt (by omega),
          Nat.mod_eq_of_lt (by omega)] at this))
      rw [beq_eq_false_iff_ne.mpr this]
      rfl
  unfold hot
  rw [e]
  split
  · show (((BitVec.setWidth 32 1#1).toInt : ℝ) : EReal) = 1
    norm_num
  · show (((BitVec.setWidth 32 0#1).toInt : ℝ) : EReal) = 0
    norm_num

/-- The sum against the indicators is the selected value. -/
theorem sum_hot (x : Fin 1024 → EReal) (n : Fin 1024) : ∑ k, x k * hot k (BitVec.ofNat 32 n.val) = x n := by
  simp only [hot_eq, mul_ite, mul_one, mul_zero]
  rw [Finset.sum_ite_eq' Finset.univ n x]
  simp

end Cert.Maths

end
-- ==== Proof.Reals.lean ====
/- Values that are real numbers, and the operations that keep them so. -/
module

public import proofs.«01_k».proof.Proof.Nearest

@[expose] public section

set_option Elab.async false

noncomputable section

namespace Cert.Maths

open Idealize.ShloMosaic

/-- The extended real `x` is a real number. -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.sub {x y : EReal} (hx : IsReal x) (hy : IsReal y) : IsReal (x - y) := by
  obtain ⟨r, rfl⟩ := hx
  obtain ⟨s, rfl⟩ := hy
  exact ⟨r - s, (EReal.coe_sub r s).symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.max {x y : EReal} (hx : IsReal x) (hy : IsReal y) : IsReal (max x y) := by
  rcases max_choice x y with h | h <;> rw [h] <;> assumption

theorem IsReal.sum {ι : Type} (s : Finset ι) (f : ι → EReal) (h : ∀ i ∈ s, IsReal (f i)) : IsReal (∑ i ∈ s, f i) :=
  Finset.sum_induction f IsReal (fun _ _ => IsReal.add) IsReal.zero h

/-- A value strictly below plus infinity in size is a real number. -/
theorem IsReal.of_abs_lt {x : EReal} (h : Max.max x (-x) < ⊤) : IsReal x := by
  induction x with
  | bot => simp at h
  | top => simp at h
  | coe r => exact ⟨r, rfl⟩

/-- An inverse is always a real number. -/
theorem IsReal.inv (y : EReal) : IsReal y⁻¹ := by
  induction y with
  | bot => exact ⟨0, by simp⟩
  | top => exact ⟨0, by simp⟩
  | coe r => exact ⟨r⁻¹, (EReal.coe_inv r).symm⟩

/-- A quotient by anything but zero is a real number. -/
theorem IsReal.div {x y : EReal} (hx : IsReal x) (hy : y ≠ 0) : IsReal (Ideal.div x y) := by
  unfold Ideal.div
  rw [if_neg hy]
  exact hx.mul (IsReal.inv y)

/-- The root of anything but zero is not zero. -/
theorem sqrt_ne_zero {x : EReal} (h : x ≠ 0) : Ideal.sqrt x ≠ 0 := by
  induction x with
  | bot => exact EReal.bot_ne_zero
  | top => exact EReal.top_ne_zero
  | coe r =>
    have hr : r ≠ 0 := fun e => h (by rw [e]; rfl)
    show (if r < 0 then (⊥ : EReal) else (Real.sqrt r : EReal)) ≠ 0
    split
    · exact EReal.bot_ne_zero
    · rename_i hn
      rw [Ne, EReal.coe_eq_zero]
      exact (Real.sqrt_pos.2 (lt_of_le_of_ne (not_lt.1 hn) hr.symm)).ne'

/-- Normalisation keeps real numbers, when it does not divide by zero. -/
theorem IsReal.bnorm {v rm rv g be : EReal} (hv : IsReal v) (hm : IsReal rm) (hr : rv + eps ≠ 0) (hg : IsReal g) (hb : IsReal be) :
    IsReal (bnorm v rm rv g be) :=
  (((hv.sub hm).div (sqrt_ne_zero hr)).mul hg).add hb

/-- Summing real numbers, as reals or as extended reals, is the same. -/
theorem coe_sum {ι : Type} (s : Finset ι) (f : ι → ℝ) : ((∑ i ∈ s, f i : ℝ) : EReal) = ∑ i ∈ s, (f i : EReal) :=
  map_sum (⟨⟨Real.toEReal, rfl⟩, EReal.coe_add⟩ : ℝ →+ EReal) f s

/-- The factor two is the number two. -/
theorem two_eq : two = ((2 : ℝ) : EReal) := by
  unfold two
  simp [Ideal.ofBits, Ideal.ieee, -EReal.coe_mul]
  norm_num

/-- Adding to a real number what takes it to `q` gives `q`. -/
theorem add_sub_real {y q : EReal} (hy : IsReal y) (hq : IsReal q) : y + (q - y) = q := by
  obtain ⟨r, rfl⟩ := hy
  obtain ⟨s, rfl⟩ := hq
  rw [← EReal.coe_sub, ← EReal.coe_add]
  congr 1
  ring

/-- A real row's distance to a real codebook row is the sum of squared differences. -/
theorem distance_eq (y : Fin 256 → EReal) (cb : Fin 1024 → Fin 256 → EReal) (k : Fin 1024) (hy : ∀ c, IsReal (y c))
    (hc : ∀ c, IsReal (cb k c)) : distance y cb k = ∑ c, (y c - cb k c) * (y c - cb k c) := by
  choose r hr using hy
  choose s hs using hc
  unfold distance
  simp only [hr, hs, two_eq, ← EReal.coe_mul, ← EReal.coe_sub, ← EReal.coe_add, ← coe_sum]
  congr 1
  rw [Finset.mul_sum, ← Finset.sum_sub_distrib, ← Finset.sum_add_distrib]
  exact Finset.sum_congr rfl fun c _ => by ring

end Cert.Maths

end
-- ==== Proof.RealArrays.lean ====
/- With real arguments and no division by zero, the arrays of both layers hold real numbers. -/
module

public import proofs.«01_k».proof.Proof.Layers
public import proofs.«01_k».proof.Proof.Reals

@[expose] public section

set_option Elab.async false
set_option maxRecDepth 16384

noncomputable section

namespace Cert.Maths

open Cert.KernelIdeal Idealize.ShloMosaic Idealize.ShloMosaic.Tactic Idealize.SL.Sem

/-- Every entry of the array is a real number. -/
def AllReal {s : Shape} (x : s.Idx → EReal) : Prop := ∀ i, IsReal (x i)

/-- An array of rank 4 is real when it is at every four coordinates. -/
theorem AllReal.of4 {m n p q : Nat} {f : (⟨4, ![m, n, p, q]⟩ : Shape).Idx → EReal} (H : ∀ a b c d, IsReal (f (ix4 a b c d))) :
    AllReal f := by
  intro j
  rw [eq_ix4 j]
  exact H _ _ _ _

/-- An array of rank 3 is real when it is at every three coordinates. -/
theorem AllReal.of3 {m n p : Nat} {f : (⟨3, ![m, n, p]⟩ : Shape).Idx → EReal} (H : ∀ a b c, IsReal (f (ix3 a b c))) :
    AllReal f := by
  intro j
  rw [eq_ix3 j]
  exact H _ _ _

/-- A converted integer is a real number. -/
theorem IsReal.sitofp {w : Nat} (z : BitVec w) : IsReal (FloatOps.sitofp (F := Ideal) .f32 z) := ⟨_, rfl⟩

/-- Padding with zeros keeps real numbers. -/
theorem padded1_real (x : FVec Ideal S8x2x512x512 .f32) (h : AllReal x) : AllReal (Cert.Ref.padded1 x) := by
  intro i
  unfold Cert.Ref.padded1 pad
  split
  · exact h _
  · exact IsReal.sitofp _

/-- The same of the middle array. -/
theorem padded2_real (y : FVec Ideal S8x4x256x256 .f32) (h : AllReal y) : AllReal (Cert.Ref.padded2 y) := by
  intro i
  unfold Cert.Ref.padded2 pad
  split
  · exact h _
  · exact IsReal.sitofp _

/-- The first convolution of real arrays is real. -/
theorem conv1_real (w : FVec Ideal S4x2x4x4 .f32) (xp : FVec Ideal S8x2x514x514 .f32) (hw : AllReal w) (hx : AllReal xp)
    (b : Fin 8) (o : Fin 4) (h v : Fin 256) : IsReal (Cert.Ref.conv1 w xp (ix4 b o h v)) := by
  rw [conv1_apply, product1]
  exact IsReal.sum _ _ fun g _ => IsReal.sum _ _ fun i _ => (hw _).mul (hx _)

/-- The second convolution of real arrays is real. -/
theorem conv2_real (w : FVec Ideal S4x4x3x3 .f32) (yp : FVec Ideal S8x4x258x258 .f32) (hw : AllReal w) (hy : AllReal yp)
    (b : Fin 8) (o : Fin 4) (h v : Fin 256) : IsReal (Cert.Ref.conv2 w yp (ix4 b o h v)) := by
  rw [conv2_apply, product2]
  exact IsReal.sum _ _ fun g _ => IsReal.sum _ _ fun i _ => (hw _).mul (hy _)

/-- The middle array is real. -/
theorem middle_real (x : FVec Ideal S8x2x512x512 .f32) (w : FVec Ideal S4x2x4x4 .f32) (bi g be rm rv : FVec Ideal S4 .f32)
    (hx : AllReal x) (hw : AllReal w) (hbi : AllReal bi) (hg : AllReal g) (hbe : AllReal be) (hrm : AllReal rm)
    (hrv : ∀ i, rv i + eps ≠ 0) :
    AllReal (Cert.Ref.middle (Cert.Ref.conv1 w (Cert.Ref.padded1 x)) bi g be rm rv) := by
  refine AllReal.of4 fun b o h v => ?_
  rw [middle_apply]
  exact (IsReal.bnorm ((conv1_real _ _ hw (padded1_real x hx) _ _ _ _).add (hbi _)) (hrm _) (hrv _) (hg _) (hbe _)).max
    IsReal.zero

/-- The rows to quantise are real. -/
theorem rows_real (y : FVec Ideal S8x4x256x256 .f32) (w : FVec Ideal S4x4x3x3 .f32) (bi g be rm rv : FVec Ideal S4 .f32)
    (hy : AllReal y) (hw : AllReal w) (hbi : AllReal bi) (hg : AllReal g) (hbe : AllReal be) (hrm : AllReal rm)
    (hrv : ∀ i, rv i + eps ≠ 0) :
    AllReal (Cert.Ref.rows (Cert.Ref.conv2 w (Cert.Ref.padded2 y)) y bi g be rm rv) := by
  refine AllReal.of3 fun b n c => ?_
  rw [rows_apply]
  exact IsReal.bnorm (((conv2_real _ _ hw (padded2_real y hy) _ _ _ _).add (hbi _)).add (hy _)) (hrm _) (hrv _) (hg _) (hbe _)

end Cert.Maths

end
-- ==== Proof.Regular.lean ====
/- The precondition read: every argument but the two variances is real, and no variance makes the normalisation divide
   by zero. -/
module

public import proofs.«01_k».proof.Pre_regular
public import proofs.«01_k».proof.Proof.RealArrays
public import Idealize.ShloMosaic.Lib.ReduceAll

@[expose] public section

set_option Elab.async false
set_option maxRecDepth 16384

noncomputable section

namespace Cert.Maths

open Cert.Pre_regular Idealize.ShloMosaic

/-- The shape relations of the precondition's operations hold. -/
instance regularFacts : Cert.Pre_regular.Facts where
  bcast_S_S4 := by decide
  reducesTo_S4_S_d0 := by decide
  h_S_ := by decide
  bcast_S_S8x2x512x512 := by decide
  reducesTo_S8x2x512x512_S_d0_1_2_3 := by decide
  bcast_S_S4x2x4x4 := by decide
  reducesTo_S4x2x4x4_S_d0_1_2_3 := by decide
  bcast_S_S4x4x3x3 := by decide
  reducesTo_S4x4x3x3_S_d0_1_2_3 := by decide
  bcast_S_S1024x256 := by decide
  reducesTo_S1024x256_S_d0_1 := by decide

instance : Subsingleton S_.Idx := ⟨fun i j => funext fun a => a.elim0⟩

/-- An array each of whose entries tests below plus infinity in size is real. -/
theorem allReal_of {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant (F := Ideal) S_ .f32 0x7F800000#32)))
      (constantI S_ 1 1#1) hr hu j = 1#1) : AllReal x := by
  intro i
  have t := Host.reduce_andi_all _ _ _ _ j h i
  have e : Ideal.cmp .olt (max (x i) (-(x i))) (Ideal.ofBits .f32 0x7F800000#32) = 1#1 := t
  rw [ofBits_top] at e
  refine IsReal.of_abs_lt ?_
  by_contra hn
  simp [Ideal.cmp, hn] at e

/-- A variance that tests unequal to zero with the small constant added is. -/
theorem nonzero_of (rv : FVec Ideal S4 .f32) (hb hb' : S_.BroadcastsInDim S4 (![] : Fin 0 → Fin S4.rank))
    (hr : S4.ReducesTo [0] S_) (hu : 0 < S_.numel) (j : S_.Idx)
    (h : Host.reduce IntOp.andi (cmpf .une (addf rv (broadcastInDim S4 ![] hb (constant (F := Ideal) S_ .f32 0x3727C5AC#32)))
      (broadcastInDim S4 ![] hb' (constant (F := Ideal) S_ .f32 0x00000000#32))) (constantI S_ 1 1#1) hr hu j = 1#1) (i : S4.Idx) :
    rv i + eps ≠ 0 := by
  have t := Host.reduce_andi_all _ _ _ _ j h i
  have e : Ideal.cmp .une (rv i + eps) (Ideal.ofBits .f32 0x00000000#32) = 1#1 := t
  have z : Ideal.ofBits .f32 0x00000000#32 = 0 := by simp [Ideal.ofBits, Ideal.ieee]
  rw [z] at e
  intro hn
  simp [Ideal.cmp, hn] at e

/-- A conjunction that holds has both its parts. -/
theorem both {a b : IVec S_ 1} {j : S_.Idx} (h : andi a b j = 1#1) : a j = 1#1 ∧ b j = 1#1 := IntOp.andi_eq_one.1 h

/-- What the precondition says of the arguments. -/
structure Regular (x : FVec Ideal S8x2x512x512 .f32) (w1 : FVec Ideal S4x2x4x4 .f32) (b1 g1 e1 m1 v1 : FVec Ideal S4 .f32)
    (w2 : FVec Ideal S4x4x3x3 .f32) (b2 g2 e2 m2 v2 : FVec Ideal S4 .f32) (cb : FVec Ideal S1024x256 .f32) : Prop where
  x : AllReal x
  w1 : AllReal w1
  b1 : AllReal b1
  g1 : AllReal g1
  e1 : AllReal e1
  m1 : AllReal m1
  v1 : ∀ i, v1 i + eps ≠ 0
  w2 : AllReal w2
  b2 : AllReal b2
  g2 : AllReal g2
  e2 : AllReal e2
  m2 : AllReal m2
  v2 : ∀ i, v2 i + eps ≠ 0
  cb : AllReal cb

/-- The precondition says that. -/
theorem regular_of (x : FVec Ideal S8x2x512x512 .f32) (w1 : FVec Ideal S4x2x4x4 .f32) (b1 g1 e1 m1 v1 : FVec Ideal S4 .f32)
    (w2 : FVec Ideal S4x4x3x3 .f32) (b2 g2 e2 m2 v2 : FVec Ideal S4 .f32) (cb : FVec Ideal S1024x256 .f32) (j : S_.Idx)
    (h : Cert.Pre_regular.fn (F := Ideal) x w1 b1 g1 e1 m1 v1 w2 b2 g2 e2 m2 v2 cb j = 1#1) :
    Regular x w1 b1 g1 e1 m1 v1 w2 b2 g2 e2 m2 v2 cb := by
  unfold Cert.Pre_regular.fn Cert.Pre_regular.fn_part1 Cert.Pre_regular.fn_part2 Cert.Pre_regular.fn_part3
    Cert.Pre_regular.fn_part4 at h
  obtain ⟨h, hcb⟩ := both h
  obtain ⟨h, hm2⟩ := both h
  obtain ⟨h, he2⟩ := both h
  obtain ⟨h, hg2⟩ := both h
  obtain ⟨h, hb2⟩ := both h
  obtain ⟨h, hw2⟩ := both h
  obtain ⟨h, hm1⟩ := both h
  obtain ⟨h, he1⟩ := both h
  obtain ⟨h, hg1⟩ := both h
  obtain ⟨h, hb1⟩ := both h
  obtain ⟨h, hw1⟩ := both h
  obtain ⟨h, hx⟩ := both h
  obtain ⟨hv1, hv2⟩ := both h
  exact ⟨allReal_of _ _ _ _ _ hx, allReal_of _ _ _ _ _ hw1, allReal_of _ _ _ _ _ hb1, allReal_of _ _ _ _ _ hg1,
    allReal_of _ _ _ _ _ he1, allReal_of _ _ _ _ _ hm1, nonzero_of _ _ _ _ _ _ hv1, allReal_of _ _ _ _ _ hw2,
    allReal_of _ _ _ _ _ hb2, allReal_of _ _ _ _ _ hg2, allReal_of _ _ _ _ _ he2, allReal_of _ _ _ _ _ hm2,
    nonzero_of _ _ _ _ _ _ hv2, allReal_of _ _ _ _ _ hcb⟩

end Cert.Maths

end
-- ==== Proof.RefNearest.lean ====
/- The reference's nearest row: the fold over (distance, number) pairs ends at the first least distance, and the row
   taken is the codebook's row of that number. -/
module

public import proofs.«01_k».proof.Proof.RefTerms
public import proofs.«01_k».proof.Proof.Nearest

@[expose] public section

set_option Elab.async false
set_option maxRecDepth 16384

noncomputable section

namespace Cert.Ref

open Cert.ReferenceIdeal Cert.ReferenceIdeal.Gen Cert.Maths Idealize.ShloMosaic Idealize.SL.Sem

/-- The step of the fold keeps the running pair where that pair comes first. -/
theorem step_keep (a b : EReal × BitVec 32) (h : a.1 < b.1 ∨ (a.1 = b.1 ∧ a.2.slt b.2 = true)) :
    reducer_argmin_f32_i32 (F := Ideal) a b = a := by
  obtain ⟨x, i⟩ := a
  obtain ⟨y, k⟩ := b
  rcases h with h | ⟨h, h'⟩
  · replace h : x < y := h
    simp [reducer_argmin_f32_i32, Idealize.ShloMosaic.Ideal.cmpf_def, Ideal.cmp, IntOp.ori, IntOp.andi, Scalar.select, h, h.ne]
  · replace h : x = y := h
    replace h' : i.slt k = true := h'
    subst h
    simp [reducer_argmin_f32_i32, Idealize.ShloMosaic.Ideal.cmpf_def, Ideal.cmp, IntOp.ori, IntOp.andi, IntOp.cmpi,
      Scalar.select, h']

/-- Otherwise it takes the new pair. -/
theorem step_take (a b : EReal × BitVec 32) (h : ¬ (a.1 < b.1 ∨ (a.1 = b.1 ∧ a.2.slt b.2 = true))) :
    reducer_argmin_f32_i32 (F := Ideal) a b = b := by
  obtain ⟨x, i⟩ := a
  obtain ⟨y, k⟩ := b
  obtain ⟨h1, h2⟩ := not_or.mp h
  replace h1 : ¬ x < y := h1
  by_cases e : x = y
  · have h3 : i.slt k = false := Bool.eq_false_iff.mpr fun h' => h2 ⟨e, h'⟩
    subst e
    simp [reducer_argmin_f32_i32, Idealize.ShloMosaic.Ideal.cmpf_def, Ideal.cmp, IntOp.ori, IntOp.andi, IntOp.cmpi,
      Scalar.select, h3]
  · simp [reducer_argmin_f32_i32, Idealize.ShloMosaic.Ideal.cmpf_def, Ideal.cmp, IntOp.ori, IntOp.andi,
      Scalar.select, h1, e]

/-- Signed comparison of two numbers below 1024. -/
theorem slt_small (i k : Fin 1024) : (BitVec.ofNat 32 i.val).slt (BitVec.ofNat 32 k.val) = true ↔ i < k := by
  rw [BitVec.slt_iff_toInt_lt, toInt_small _ (by omega), toInt_small _ (by omega)]
  exact_mod_cast Iff.rfl

/-- What holds of the running pair before the first least distance is met. -/
def Before (d : Fin 1024 → EReal) (a : EReal × BitVec 32) : Prop :=
  ∃ i : Fin 1024, a.2 = BitVec.ofNat 32 i.val ∧ d (first d) ≤ a.1 ∧ (a.1 = d (first d) → first d ≤ i)

/-- What holds after it. -/
def Met (d : Fin 1024 → EReal) (a : EReal × BitVec 32) : Prop :=
  a.1 = d (first d) ∧ a.2 = BitVec.ofNat 32 (first d).val

/-- The starting pair. -/
theorem before_start (d : Fin 1024 → EReal) : Before d (⊤, 0#32) := by
  refine ⟨0, rfl, le_top, fun h => first_first d 0 ?_⟩
  exact le_antisymm (h ▸ le_top) (first_le d 0)

/-- Any element keeps the first property. -/
theorem before_step (d : Fin 1024 → EReal) (a : EReal × BitVec 32) (k : Fin 1024) (h : Before d a) :
    Before d (reducer_argmin_f32_i32 (F := Ideal) a (d k, BitVec.ofNat 32 k.val)) := by
  by_cases c : a.1 < d k ∨ (a.1 = d k ∧ a.2.slt (BitVec.ofNat 32 k.val) = true)
  · rw [step_keep _ _ c]
    exact h
  · rw [step_take _ _ c]
    exact ⟨k, rfl, first_le d k, first_first d k⟩

/-- The first least distance establishes the second. -/
theorem met_start (d : Fin 1024 → EReal) (a : EReal × BitVec 32) (h : Before d a) :
    Met d (reducer_argmin_f32_i32 (F := Ideal) a (d (first d), BitVec.ofNat 32 (first d).val)) := by
  obtain ⟨i, e, l, f⟩ := h
  have c : ¬ (a.1 < d (first d) ∨ (a.1 = d (first d) ∧ a.2.slt (BitVec.ofNat 32 (first d).val) = true)) := by
    rintro (h1 | ⟨h1, h2⟩)
    · exact absurd h1 (not_lt.mpr l)
    · rw [e, slt_small] at h2
      exact absurd (f h1) (not_le.mpr h2)
  rw [step_take _ _ c]
  exact ⟨rfl, rfl⟩

/-- Any element keeps the second property. -/
theorem met_step (d : Fin 1024 → EReal) (a : EReal × BitVec 32) (k : Fin 1024) (h : Met d a) :
    Met d (reducer_argmin_f32_i32 (F := Ideal) a (d k, BitVec.ofNat 32 k.val)) := by
  by_cases c : a.1 < d k ∨ (a.1 = d k ∧ a.2.slt (BitVec.ofNat 32 k.val) = true)
  · rw [step_keep _ _ c]
    exact h
  · rw [step_take _ _ c]
    obtain ⟨e, f⟩ := h
    have hk : d k = d (first d) := le_antisymm (e ▸ not_lt.mp fun h => c (Or.inl h)) (first_le d k)
    have hl : ¬ first d < k := fun hl => c (Or.inr ⟨e.trans hk.symm, by rw [f, slt_small]; exact hl⟩)
    have hkk : k = first d := le_antisymm (not_lt.mp hl) (first_first d k hk)
    exact ⟨hk, by rw [← hkk]⟩

/-- The fold over a list of pairs that holds the first least distance's. -/
theorem fold_met (d : Fin 1024 → EReal) (l : List (EReal × BitVec 32)) (hl : ∀ p ∈ l, ∃ k : Fin 1024, p = (d k, BitVec.ofNat 32 k.val))
    (hm : (d (first d), BitVec.ofNat 32 (first d).val) ∈ l) (a : EReal × BitVec 32) (h : Before d a) :
    Met d (l.foldl (reducer_argmin_f32_i32 (F := Ideal)) a) := by
  have keep : ∀ (l : List (EReal × BitVec 32)), (∀ p ∈ l, ∃ k : Fin 1024, p = (d k, BitVec.ofNat 32 k.val)) →
      ∀ a, Met d a → Met d (l.foldl (reducer_argmin_f32_i32 (F := Ideal)) a) := by
    intro l
    induction l with
    | nil => exact fun _ _ h => h
    | cons p l ih =>
      intro hl a h
      obtain ⟨k, rfl⟩ := hl p (List.mem_cons_self ..)
      exact ih (fun q hq => hl q (List.mem_cons_of_mem _ hq)) _ (met_step d a k h)
  induction l generalizing a with
  | nil => exact absurd hm (by simp)
  | cons p l ih =>
    have hl' := fun q hq => hl q (List.mem_cons_of_mem p hq)
    rcases List.mem_cons.mp hm with rfl | hm'
    · exact keep l hl' _ (met_start d a h)
    · obtain ⟨k, rfl⟩ := hl p (List.mem_cons_self ..)
      exact ih hl' hm' _ (before_step d a k h)

/-- The pairs a fold over the last axis runs over, at a result index: row `n`'s values with their numbers. -/
theorem fiber_pairs {B N K : Nat} (h : (⟨3, ![B, N, K]⟩ : Shape).ReducesTo [2] ⟨2, ![B, N]⟩)
    (D : (⟨3, ![B, N, K]⟩ : Shape).Idx → EReal) (y : (⟨3, ![B, N, K]⟩ : Shape).Idx → BitVec 32)
    (b : Fin B) (n : Fin N) (p : EReal × BitVec 32) :
    p ∈ Host.argReduceFiber D y h (ix2 b n) ↔ ∃ k : Fin K, p = (D (ix3 b n k), y (ix3 b n k)) := by
  have key : ∀ i : (⟨3, ![B, N, K]⟩ : Shape).Idx, h.drop i = ix2 b n ↔ i = ix3 b n (i 2) := by
    intro i
    have h0 : (h.drop i 0 : Nat) = i 0 := Shape.ReducesTo.drop_apply_val h i 0
    have h1 : (h.drop i 1 : Nat) = i 1 := Shape.ReducesTo.drop_apply_val h i 1
    constructor
    · intro h
      rw [h] at h0 h1
      funext a
      fin_cases a
      · exact Fin.ext h0.symm
      · exact Fin.ext h1.symm
      · rfl
    · intro h
      rw [h] at h0 h1
      rw [h]
      funext a
      fin_cases a
      · exact Fin.ext h0
      · exact Fin.ext h1
  unfold Host.argReduceFiber
  rw [List.mem_map]
  constructor
  · rintro ⟨r, hr, rfl⟩
    rw [List.mem_filter, decide_eq_true_eq, key] at hr
    exact ⟨((⟨3, ![B, N, K]⟩ : Shape).rowMajor.symm r) 2, Prod.ext (congrArg D hr.2) (congrArg y hr.2)⟩
  · rintro ⟨k, rfl⟩
    refine ⟨(⟨3, ![B, N, K]⟩ : Shape).rowMajor (ix3 b n k), ?_, ?_⟩
    · rw [List.mem_filter, decide_eq_true_eq, Equiv.symm_apply_apply, key]
      exact ⟨List.mem_finRange _, rfl⟩
    · rw [Equiv.symm_apply_apply]

/-- The fold over the last axis of any array of that rank: its number at a result index. -/
theorem number_apply {B N : Nat} (h : (⟨3, ![B, N, 1024]⟩ : Shape).ReducesTo [2] ⟨2, ![B, N]⟩)
    (D : FVec Ideal ⟨3, ![B, N, 1024]⟩ .f32) (y : (⟨3, ![B, N, 1024]⟩ : Shape).Idx → BitVec 32)
    (hy : ∀ b n k, y (ix3 b n k) = BitVec.ofNat 32 k.val)
    (u : FVec Ideal S_ .f32) (v : IVec S_ 32) (hu : u (Shape.Idx.first h_S_) = (⊤ : EReal)) (hv : v (Shape.Idx.first h_S_) = 0#32)
    (q : (⟨2, ![B, N]⟩ : Shape).Idx → EReal × BitVec 32) (hq : q = Host.argReduce reducer_argmin_f32_i32 D y u v h h_S_)
    (b : Fin B) (n : Fin N) :
    (q (ix2 b n)).2 = BitVec.ofNat 32 (first fun k => D (ix3 b n k)).val := by
  subst hq
  have hp := fiber_pairs h D y b n
  rw [Idealize.ShloMosaic.Ideal.argReduce_eq_reduce2, Host.reduce2_eq_foldl_fiber, hu, hv]
  generalize Host.argReduceFiber D y h (ix2 b n) = l at hp ⊢
  refine (fold_met (fun k => D (ix3 b n k)) l (fun p hq => ?_) ((hp _).mpr ⟨_, by rw [hy]⟩) _ (before_start _)).2
  obtain ⟨k, rfl⟩ := (hp p).mp hq
  exact ⟨k, by rw [hy]⟩

/-- The numbers of the iota along the last axis. -/
theorem iota_apply (b : Fin 8) (n k : Fin 1024) : iotaInDim S8x1024x1024 32 2 (ix3 b n k) = BitVec.ofNat 32 k.val := rfl

/-- The reference's numbers are the second halves of the fold's pairs. -/
theorem nearestRow_pairs (D : FVec Ideal S8x1024x1024 .f32) : ∃ q : S8x1024.Idx → EReal × BitVec 32,
    q = Host.argReduce reducer_argmin_f32_i32 D (iotaInDim S8x1024x1024 32 2) (constant S_ .f32 0x7F800000#32)
      (constantI S_ 32 0#32) reducesTo_S8x1024x1024_S8x1024_d2 h_S_ ∧ nearestRow D = fun j => (q j).2 :=
  ⟨_, rfl, rfl⟩

/-- The number the reference finds for a row. -/
theorem nearestRow_apply (D : FVec Ideal S8x1024x1024 .f32) (b : Fin 8) (n : Fin 1024) :
    nearestRow D (ix2 b n) = BitVec.ofNat 32 (first fun k => D (ix3 b n k)).val := by
  obtain ⟨q, hq, e⟩ := nearestRow_pairs D
  rw [e]
  exact number_apply (B := 8) (N := 1024) reducesTo_S8x1024x1024_S8x1024_d2 D _ iota_apply (constant S_ .f32 0x7F800000#32)
    (constantI S_ 32 0#32) ofBits_top rfl q hq b n

end Cert.Ref

end
-- ==== Proof.RefTaken.lean ====
/- The reference's distances at an index, and the codebook row it takes for a number below 1024. -/
module

public import proofs.«01_k».proof.Proof.RefNearest

@[expose] public section

set_option Elab.async false
set_option maxRecDepth 16384

noncomputable section

namespace Cert.Ref

open Cert.ReferenceIdeal Cert.ReferenceIdeal.Gen Cert.Maths Idealize.ShloMosaic Idealize.ShloMosaic.Tactic Idealize.SL.Sem

/-- A distance at an index. -/
theorem distances_apply (y : FVec Ideal S8x1024x256 .f32) (cb : FVec Ideal S1024x256 .f32) (b : Fin 8) (n k : Fin 1024) :
    distances y cb (ix3 b n k) = distance (fun c => y (ix3 b n c)) (fun k c => cb (ix2 k c)) k := by
  pointwise [distances, distance, two]

/-- A number below 1024 is not counted from the end. -/
theorem wrapped_apply (n : IVec S8x1024 32) (b : Fin 8) (r : Fin 1024) (z : Fin 1) (k : Fin 1024)
    (h : n (ix2 b r) = BitVec.ofNat 32 k.val) : wrapped n (ix3 b r z) = BitVec.ofNat 32 k.val := by
  pointwise [wrapped]
  rw [h, show IntOp.cmpi .slt (BitVec.ofNat 32 k.val) 0#32 = 0#1 from ?_]
  · rfl
  · show BitVec.ofBool ((BitVec.ofNat 32 k.val).slt 0#32) = 0#1
    have h' : (BitVec.ofNat 32 k.val).slt 0#32 = false := Bool.eq_false_iff.mpr fun h' => by
      rw [BitVec.slt_iff_toInt_lt, toInt_small k.val (by omega), show (0#32).toInt = 0 from rfl] at h'
      omega
    rw [h']
    rfl

/-- A number below 1024 is in the codebook. -/
theorem inBook_apply (n : IVec S8x1024x1 32) (b : Fin 8) (r : Fin 1024) (k : Fin 1024)
    (h : ∀ z, n (ix3 b r z) = BitVec.ofNat 32 k.val) : inBook n (ix2 b r) = 1#1 := by
  pointwise [inBook]
  have e0 : IntOp.cmpi .sge (BitVec.ofNat 32 k.val) 0#32 = 1#1 := by
    show BitVec.ofBool ((0#32).sle (BitVec.ofNat 32 k.val)) = 1#1
    rw [show (0#32).sle (BitVec.ofNat 32 k.val) = true from by
      rw [BitVec.sle_iff_toInt_le, toInt_small k.val (by omega), show (0#32).toInt = 0 from rfl]; omega]
    rfl
  have e1 : IntOp.cmpi .sle (BitVec.ofNat 32 k.val) 1023#32 = 1#1 := by
    show BitVec.ofBool ((BitVec.ofNat 32 k.val).sle 1023#32) = 1#1
    rw [show (BitVec.ofNat 32 k.val).sle 1023#32 = true from by
      rw [BitVec.sle_iff_toInt_le, toInt_small k.val (by omega), show (1023#32).toInt = 1023 from rfl]; omega]
    rfl
  simp only [h, e0, e1]
  rfl

/-- The gather at an index: the row of the start index, read signed and clamped. -/
theorem gather_apply (cb : FVec Ideal S1024x256 .f32) (n : IVec S8x1024x1 32) (b : Fin 8) (r : Fin 1024) (c : Fin 256) :
    Host.gather gather_S1024x256_S8x1024x1_S8x1024x256_2_0_n_n_0_2_1256 cb n (ix3 b r c)
      = cb (ix2 ⟨min (n (ix3 b r 0)).toInt.toNat 1023, by omega⟩ c) := by
  unfold Host.gather
  congr 1
  funext a
  refine Fin.ext ?_
  fin_cases a
  · show GatherDims.start _ _ n 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1024x256_S8x1024x1_S8x1024x256_2_0_n_n_0_2_1256.startIndexMap from List.mem_singleton.mpr rfl)]
    have hsi : ∀ q, GatherDims.siIdx gather_S1024x256_S8x1024x1_S8x1024x256_2_0_n_n_0_2_1256 (ix3 b r c) q = ix3 b r 0 := by
      intro q
      funext a
      refine Fin.ext ?_
      match a with
      | ⟨0, _⟩ => rfl
      | ⟨1, _⟩ => rfl
      | ⟨2, _⟩ =>
        have : q.val < 1 := q.isLt
        show q.val = 0
        omega
    rw [hsi]
    rfl
  · show GatherDims.start _ _ n 1 + GatherDims.batchCoord _ _ 1 + GatherDims.offCoord _ _ 1 = _
    rw [GatherDims.batchCoord_eq_zero _ _ _ List.not_mem_nil]
    unfold GatherDims.start
    rw [dif_neg (by decide)]
    simp only [Nat.zero_add]
    rfl

/-- The row taken for a number below 1024 is the codebook's row of that number. -/
theorem rowsTaken_apply (cb : FVec Ideal S1024x256 .f32) (n : IVec S8x1024 32) (b : Fin 8) (r : Fin 1024) (c : Fin 256)
    (k : Fin 1024) (h : n (ix2 b r) = BitVec.ofNat 32 k.val) : rowsTaken cb n (ix3 b r c) = cb (ix2 k c) := by
  have e0 := fun z => wrapped_apply n b r z k h
  have e1 := inBook_apply (wrapped n) b r k e0
  unfold rowsTaken
  generalize inBook (wrapped n) = p at e1
  pointwise []
  rw [e1, gather_apply]
  show cb _ = cb _
  congr 2
  refine Fin.ext ?_
  show min (wrapped n (ix3 b r 0)).toInt.toNat 1023 = k.val
  rw [e0, toInt_small _ (by omega)]
  omega

end Cert.Ref

end
-- ==== Proof.Results.lean ====
/- The three results: of real rows and a real codebook, the kernel's are the reference's. -/
module

public import proofs.«01_k».proof.Proof.RealArrays
public import proofs.«01_k».proof.Proof.RefTaken
public import proofs.«01_k».proof.Proof.RefNearest

@[expose] public section

set_option Elab.async false
set_option maxRecDepth 16384

noncomputable section

namespace Cert.Maths

open Cert.KernelIdeal Idealize.ShloMosaic Idealize.ShloMosaic.Tactic Idealize.SL.Sem

variable (y : FVec Ideal S8x1024x256 .f32) (cb : FVec Ideal S1024x256 .f32)

/-- The distances of one row to the codebook. -/
abbrev dist (b : Fin 8) (n : Fin 1024) : Fin 1024 → EReal := distance (Cert.Ker.rowOf y b n) (Cert.Ker.bookOf cb)

/-- The distances of the reference are those. -/
theorem dist_apply (b : Fin 8) (n : Fin 1024) : (fun k => Cert.Ref.distances y cb (ix3 b n k)) = dist y cb b n :=
  funext fun k => Cert.Ref.distances_apply y cb b n k

/-- The number picked for a row of distances. -/
theorem number_of (D : FVec Ideal Cert.ReferenceIdeal.S8x1024x1024 .f32) (b : Fin 8) (n : Fin 1024) (e : Fin 1024 → EReal)
    (h : (fun k => D (ix3 b n k)) = e) : Cert.Ref.nearestRow D (ix2 b n) = BitVec.ofNat 32 (first e).val := by
  subst h
  exact Cert.Ref.nearestRow_apply D b n

/-- The number that the reference picks for a row. -/
theorem picked_apply (b : Fin 8) (n : Fin 1024) : Cert.Ref.nearestRow (Cert.Ref.distances y cb) (ix2 b n)
    = BitVec.ofNat 32 (first (dist y cb b n)).val :=
  number_of _ b n _ (dist_apply y cb b n)

/-- The codebook row that the reference takes for a row. -/
theorem chosen_apply (b : Fin 8) (n : Fin 1024) (c : Fin 256) :
    Cert.Ref.rowsTaken cb (Cert.Ref.nearestRow (Cert.Ref.distances y cb)) (ix3 b n c) = cb (ix2 (first (dist y cb b n)) c) :=
  Cert.Ref.rowsTaken_apply cb _ b n c _ (picked_apply y cb b n)

/-- Result 2: the kernel's numbers are any that name the first nearest row. -/
theorem numbers_same (N : IVec Cert.ReferenceIdeal.S8x1024 32)
    (h : ∀ b n, N (ix2 b n) = BitVec.ofNat 32 (first (dist y cb b n)).val) :
    Cert.Ker.numbersOf (Cert.Ker.codesOf y cb) = Cert.Ref.numbers N := by
  refine funext3 fun b n z => ?_
  have e := firstAt_eq (dist y cb b n)
  rw [← h] at e
  pointwise [Cert.Ref.numbers, Cert.Ker.numbersOf, Cert.Ker.codesOf]
  exact e

/-- Result 1: the kernel's first result is the reference's for codebook rows that are the first nearest. -/
theorem latent_same (q : FVec Ideal S8x1024x256 .f32) (hy : AllReal y) (hc : AllReal cb)
    (h : ∀ b n c, q (ix3 b n c) = cb (ix2 (first (dist y cb b n)) c)) :
    Cert.Ker.latentOf y cb (Cert.Ker.turned cb) = Cert.Ref.latent y q := by
  refine funext3 fun b c n => ?_
  have e : Cert.Ref.latent y q (ix3 b c n) = y (ix3 b n c) + (q (ix3 b n c) - y (ix3 b n c)) := by
    pointwise [Cert.Ref.latent]
  rw [e, h, add_sub_real (hy _) (hc _)]
  show ∑ k, Cert.Ker.turned cb (ix2 c k) * hot k (firstAt (dist y cb b n)) = _
  rw [firstAt_eq, sum_hot]
  pointwise [Cert.Ker.turned]

/-- The mean's numerator in the reference. -/
theorem squares_apply (q : FVec Ideal S8x1024x256 .f32) (i : S_.Idx) :
    Host.reduceAdd (mulf (subf y q) (subf y q)) (constant (F := Ideal) S_ .f32 0x00000000#32)
        Cert.ReferenceIdeal.Facts₀.reducesTo_S8x1024x256_S_d0_1_2 Cert.ReferenceIdeal.Facts₀.h_S_ i
      = ∑ b, ∑ n, ∑ c, (y (ix3 b n c) - q (ix3 b n c)) * (y (ix3 b n c) - q (ix3 b n c)) := by
  pointwise []

/-- The mean's numerator in the kernel. -/
theorem sums_apply (s : FVec Ideal S8x1x128 .f32) (i : S_.Idx) :
    Host.reduceAdd (shapeCast S8 (extractStridedSlice S8x1x1 ![0, 0, 0] s Cert.KernelIdeal.Facts₀.slices_S8x1x128_S8x1x1_0_0_0)
          Cert.KernelIdeal.Facts₀.shapeCasts_S8x1x1_S8)
        (constant (F := Ideal) S_ .f32 0x00000000#32) Cert.KernelIdeal.Facts₀.reducesTo_S8_S_d0 Cert.KernelIdeal.Facts₀.h_S_ i
      = ∑ b : Fin 8, s (ix3 b 0 0) := by
  pointwise []

/-- A row's least distance is its squared distance to the chosen codebook row. -/
theorem least_squares (hy : AllReal y) (hc : AllReal cb) (b : Fin 8) (n : Fin 1024) :
    least (dist y cb b n) = ∑ c, (y (ix3 b n c) - cb (ix2 (first (dist y cb b n)) c))
      * (y (ix3 b n c) - cb (ix2 (first (dist y cb b n)) c)) := by
  rw [least_eq]
  exact distance_eq _ _ _ (fun c => hy _) (fun c => hc _)

/-- Result 3: the same of the loss. -/
theorem loss_same (q : FVec Ideal S8x1024x256 .f32) (hy : AllReal y) (hc : AllReal cb)
    (h : ∀ b n c, q (ix3 b n c) = cb (ix2 (first (dist y cb b n)) c)) :
    Cert.Ker.lossOf (Cert.Ker.sumsOf y cb) = Cert.Ref.loss y q := by
  unfold Cert.Ker.lossOf Cert.Ref.loss
  congr 3
  funext i
  rw [squares_apply, sums_apply]
  refine Finset.sum_congr rfl fun b _ => ?_
  show ∑ n : Fin 1024, ∑ _z : Fin 1, least (dist y cb b n) = _
  refine Finset.sum_congr rfl fun n _ => ?_
  rw [Fin.sum_univ_one, least_squares y cb hy hc]
  exact Finset.sum_congr rfl fun c _ => by rw [h]

end Cert.Maths

end
-- ==== Proof.Agree.lean ====
/- The kernel's and the reference's results from the same arguments. -/
module

public import proofs.«01_k».proof.Proof.Regular
public import proofs.«01_k».proof.Proof.Results
public import proofs.«01_k».proof.Proof.RefValue
public import proofs.«01_k».proof.Proof.KerValue

@[expose] public section

set_option Elab.async false
set_option maxRecDepth 16384

noncomputable section

namespace Cert.Maths

open Idealize.ShloMosaic Idealize.ShloMosaic.TcCoe Idealize.SL.Sem

/-- The reference's buffers `V` hold the arguments that the kernel's memory `m` holds on device `c`. -/
structure Agree (m : (ℓ : Loc Cert.KernelIdeal.nD Cert.KernelIdeal.τ Cert.KernelIdeal.sig) → Buf (Elt Ideal) ℓ)
    (c : Dev Cert.KernelIdeal.nD) (V : Valuation Cert.ReferenceIdeal.τ Cert.ReferenceIdeal.sig (Elt Ideal)) : Prop where
  a0 : @Eq (FVec Ideal Cert.KernelIdeal.S8x2x512x512 .f32) (V (Proc.devRef .tc Cert.ReferenceIdeal.main_arg0))
    (m ((c.tc : Thread Cert.KernelIdeal.nD Cert.KernelIdeal.τ).loc Cert.KernelIdeal.main_arg0))
  a1 : @Eq (FVec Ideal Cert.KernelIdeal.S4x2x4x4 .f32) (V (Proc.devRef .tc Cert.ReferenceIdeal.main_arg1))
    (m ((c.tc : Thread Cert.KernelIdeal.nD Cert.KernelIdeal.τ).loc Cert.KernelIdeal.main_arg1))
  a2 : @Eq (FVec Ideal Cert.KernelIdeal.S4 .f32) (V (Proc.devRef .tc Cert.ReferenceIdeal.main_arg2))
    (m ((c.tc : Thread Cert.KernelIdeal.nD Cert.KernelIdeal.τ).loc Cert.KernelIdeal.main_arg2))
  a3 : @Eq (FVec Ideal Cert.KernelIdeal.S4 .f32) (V (Proc.devRef .tc Cert.ReferenceIdeal.main_arg3))
    (m ((c.tc : Thread Cert.KernelIdeal.nD Cert.KernelIdeal.τ).loc Cert.KernelIdeal.main_arg3))
  a4 : @Eq (FVec Ideal Cert.KernelIdeal.S4 .f32) (V (Proc.devRef .tc Cert.ReferenceIdeal.main_arg4))
    (m ((c.tc : Thread Cert.KernelIdeal.nD Cert.KernelIdeal.τ).loc Cert.KernelIdeal.main_arg4))
  a5 : @Eq (FVec Ideal Cert.KernelIdeal.S4 .f32) (V (Proc.devRef .tc Cert.ReferenceIdeal.main_arg5))
    (m ((c.tc : Thread Cert.KernelIdeal.nD Cert.KernelIdeal.τ).loc Cert.KernelIdeal.main_arg5))
  a6 : @Eq (FVec Ideal Cert.KernelIdeal.S4 .f32) (V (Proc.devRef .tc Cert.ReferenceIdeal.main_arg6))
    (m ((c.tc : Thread Cert.KernelIdeal.nD Cert.KernelIdeal.τ).loc Cert.KernelIdeal.main_arg6))
  a7 : @Eq (FVec Ideal Cert.KernelIdeal.S4x4x3x3 .f32) (V (Proc.devRef .tc Cert.ReferenceIdeal.main_arg7))
    (m ((c.tc : Thread Cert.KernelIdeal.nD Cert.KernelIdeal.τ).loc Cert.KernelIdeal.main_arg7))
  a8 : @Eq (FVec Ideal Cert.KernelIdeal.S4 .f32) (V (Proc.devRef .tc Cert.ReferenceIdeal.main_arg8))
    (m ((c.tc : Thread Cert.KernelIdeal.nD Cert.KernelIdeal.τ).loc Cert.KernelIdeal.main_arg8))
  a9 : @Eq (FVec Ideal Cert.KernelIdeal.S4 .f32) (V (Proc.devRef .tc Cert.ReferenceIdeal.main_arg9))
    (m ((c.tc : Thread Cert.KernelIdeal.nD Cert.KernelIdeal.τ).loc Cert.KernelIdeal.main_arg9))
  a10 : @Eq (FVec Ideal Cert.KernelIdeal.S4 .f32) (V (Proc.devRef .tc Cert.ReferenceIdeal.main_arg10))
    (m ((c.tc : Thread Cert.KernelIdeal.nD Cert.KernelIdeal.τ).loc Cert.KernelIdeal.main_arg10))
  a11 : @Eq (FVec Ideal Cert.KernelIdeal.S4 .f32) (V (Proc.devRef .tc Cert.ReferenceIdeal.main_arg11))
    (m ((c.tc : Thread Cert.KernelIdeal.nD Cert.KernelIdeal.τ).loc Cert.KernelIdeal.main_arg11))
  a12 : @Eq (FVec Ideal Cert.KernelIdeal.S4 .f32) (V (Proc.devRef .tc Cert.ReferenceIdeal.main_arg12))
    (m ((c.tc : Thread Cert.KernelIdeal.nD Cert.KernelIdeal.τ).loc Cert.KernelIdeal.main_arg12))
  a13 : @Eq (FVec Ideal Cert.KernelIdeal.S1024x256 .f32) (V (Proc.devRef .tc Cert.ReferenceIdeal.main_arg13))
    (m ((c.tc : Thread Cert.KernelIdeal.nD Cert.KernelIdeal.τ).loc Cert.KernelIdeal.main_arg13))

variable {m : (ℓ : Loc Cert.KernelIdeal.nD Cert.KernelIdeal.τ Cert.KernelIdeal.sig) → Buf (Elt Ideal) ℓ}
  {c : Dev Cert.KernelIdeal.nD} {V : Valuation Cert.ReferenceIdeal.τ Cert.ReferenceIdeal.sig (Elt Ideal)}

/-- The middle arrays are then one. -/
theorem Agree.mid (h : Agree m c V) : Cert.Ker.midAt m c = Cert.Ref.mid V := by
  unfold Cert.Ker.midAt Cert.Ref.mid
  rw [h.a0, h.a1, h.a2, h.a3, h.a4, h.a5, h.a6]
  exact middle_eq _ _ _ _ _ _ _

/-- The rows to quantise are then one. -/
theorem Agree.flat (h : Agree m c V) : Cert.Ker.flatAt m c = Cert.Ref.flat V := by
  unfold Cert.Ker.flatAt Cert.Ref.flat
  rw [← h.mid, h.a7, h.a8, h.a9, h.a10, h.a11, h.a12]
  exact rows_eq _ _ _ _ _ _ _

/-- The precondition of the arguments in memory. -/
def RegularAt (m : (ℓ : Loc Cert.KernelIdeal.nD Cert.KernelIdeal.τ Cert.KernelIdeal.sig) → Buf (Elt Ideal) ℓ)
    (c : Dev Cert.KernelIdeal.nD) : Prop :=
  Regular (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))

/-- The rows to quantise are then real. -/
theorem RegularAt.flat (r : RegularAt m c) : AllReal (Cert.Ker.flatAt m c) := by
  unfold Cert.Ker.flatAt Cert.Ker.midAt
  rw [rows_eq, middle_eq]
  exact rows_real _ _ _ _ _ _ _ (middle_real _ _ _ _ _ _ _ r.x r.w1 r.b1 r.g1 r.e1 r.m1 r.v1) r.w2 r.b2 r.g2 r.e2 r.m2 r.v2

/-- The numbers the reference picks name the first nearest codebook rows. -/
theorem Agree.picked (h : Agree m c V) (b : Fin 8) (n : Fin 1024) : Cert.Ref.picked V (ix2 b n)
    = BitVec.ofNat 32 (first (dist (Cert.Ker.flatAt m c)
        (m ((c.tc : Thread Cert.KernelIdeal.nD Cert.KernelIdeal.τ).loc Cert.KernelIdeal.main_arg13)) b n)).val := by
  unfold Cert.Ref.picked
  rw [← h.flat, h.a13]
  exact picked_apply _ _ b n

/-- The codebook rows the reference takes are those. -/
theorem Agree.chosen (h : Agree m c V) (b : Fin 8) (n : Fin 1024) (k : Fin 256) : Cert.Ref.chosen V (ix3 b n k)
    = (m ((c.tc : Thread Cert.KernelIdeal.nD Cert.KernelIdeal.τ).loc Cert.KernelIdeal.main_arg13) : FVec Ideal Cert.KernelIdeal.S1024x256 .f32)
        (ix2 (first (dist (Cert.Ker.flatAt m c)
          (m ((c.tc : Thread Cert.KernelIdeal.nD Cert.KernelIdeal.τ).loc Cert.KernelIdeal.main_arg13)) b n)) k) := by
  unfold Cert.Ref.chosen
  rw [h.a13]
  exact Cert.Ref.rowsTaken_apply _ _ b n k _ (h.picked b n)

/-- Result 1 of both programs. -/
theorem Agree.latent (h : Agree m c V) (r : RegularAt m c) (ρ : Dev Cert.KernelIdeal.nD → PrngReg) :
    Cert.KernelIdeal.Gen.W11 m ρ c (Proc.devRef .tc Cert.KernelIdeal.main_v241_0)
      = Cert.Ref.final V (Proc.devRef .tc Cert.ReferenceIdeal.main_v212) := by
  refine (Cert.Ker.result_latent m ρ c).trans (Eq.trans ?_ (Cert.Ref.final_latent V).symm)
  rw [← h.flat]
  exact latent_same _ _ _ r.flat r.cb h.chosen

/-- Result 2 of both programs. -/
theorem Agree.numbers (h : Agree m c V) (ρ : Dev Cert.KernelIdeal.nD → PrngReg) :
    Cert.KernelIdeal.Gen.W11 m ρ c (Proc.devRef .tc Cert.KernelIdeal.main_v243)
      = Cert.Ref.final V (Proc.devRef .tc Cert.ReferenceIdeal.main_v213) :=
  (Cert.Ker.result_numbers m ρ c).trans (Eq.trans (numbers_same _ _ _ h.picked) (Cert.Ref.final_numbers V).symm)

/-- Result 3 of both programs. -/
theorem Agree.loss (h : Agree m c V) (r : RegularAt m c) (ρ : Dev Cert.KernelIdeal.nD → PrngReg) :
    Cert.KernelIdeal.Gen.W11 m ρ c (Proc.devRef .tc Cert.KernelIdeal.main_v249)
      = Cert.Ref.final V (Proc.devRef .tc Cert.ReferenceIdeal.main_v214) := by
  refine (Cert.Ker.result_loss m ρ c).trans (Eq.trans ?_ (Cert.Ref.final_loss V).symm)
  rw [← h.flat]
  exact loss_same _ _ _ r.flat r.cb h.chosen

end Cert.Maths

end
-- ==== Proof.Inputs.lean ====
/- Two memories with the same arguments. -/
module

public import proofs.«01_k».proof.Proof.Agree
public import proofs.«01_k».proof.Proof.RefRun

@[expose] public section

set_option Elab.async false
set_option maxRecDepth 16384

noncomputable section

namespace Cert.Maths

open Idealize.ShloMosaic Idealize.ShloMosaic.TcCoe Idealize.SL.Sem Idealize.ShloMosaic.StableHlo

/-- On device `c` the reference's memory `m'` holds the arguments that the kernel's memory `m` holds. -/
def Same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) : Prop :=
  @Eq (FVec Ideal Cert.KernelIdeal.S8x2x512x512 .f32)
      (m' ((c.tc : Thread Cert.ReferenceIdeal.nD Cert.ReferenceIdeal.τ).loc Cert.ReferenceIdeal.main_arg0))
      (m ((c.tc : Thread Cert.KernelIdeal.nD Cert.KernelIdeal.τ).loc Cert.KernelIdeal.main_arg0))
  ∧ @Eq (FVec Ideal Cert.KernelIdeal.S4x2x4x4 .f32)
      (m' ((c.tc : Thread Cert.ReferenceIdeal.nD Cert.ReferenceIdeal.τ).loc Cert.ReferenceIdeal.main_arg1))
      (m ((c.tc : Thread Cert.KernelIdeal.nD Cert.KernelIdeal.τ).loc Cert.KernelIdeal.main_arg1))
  ∧ @Eq (FVec Ideal Cert.KernelIdeal.S4 .f32)
      (m' ((c.tc : Thread Cert.ReferenceIdeal.nD Cert.ReferenceIdeal.τ).loc Cert.ReferenceIdeal.main_arg2))
      (m ((c.tc : Thread Cert.KernelIdeal.nD Cert.KernelIdeal.τ).loc Cert.KernelIdeal.main_arg2))
  ∧ @Eq (FVec Ideal Cert.KernelIdeal.S4 .f32)
      (m' ((c.tc : Thread Cert.ReferenceIdeal.nD Cert.ReferenceIdeal.τ).loc Cert.ReferenceIdeal.main_arg3))
      (m ((c.tc : Thread Cert.KernelIdeal.nD Cert.KernelIdeal.τ).loc Cert.KernelIdeal.main_arg3))
  ∧ @Eq (FVec Ideal Cert.KernelIdeal.S4 .f32)
      (m' ((c.tc : Thread Cert.ReferenceIdeal.nD Cert.ReferenceIdeal.τ).loc Cert.ReferenceIdeal.main_arg4))
      (m ((c.tc : Thread Cert.KernelIdeal.nD Cert.KernelIdeal.τ).loc Cert.KernelIdeal.main_arg4))
  ∧ @Eq (FVec Ideal Cert.KernelIdeal.S4 .f32)
      (m' ((c.tc : Thread Cert.ReferenceIdeal.nD Cert.ReferenceIdeal.τ).loc Cert.ReferenceIdeal.main_arg5))
      (m ((c.tc : Thread Cert.KernelIdeal.nD Cert.KernelIdeal.τ).loc Cert.KernelIdeal.main_arg5))
  ∧ @Eq (FVec Ideal Cert.KernelIdeal.S4 .f32)
      (m' ((c.tc : Thread Cert.ReferenceIdeal.nD Cert.ReferenceIdeal.τ).loc Cert.ReferenceIdeal.main_arg6))
      (m ((c.tc : Thread Cert.KernelIdeal.nD Cert.KernelIdeal.τ).loc Cert.KernelIdeal.main_arg6))
  ∧ @Eq (FVec Ideal Cert.KernelIdeal.S4x4x3x3 .f32)
      (m' ((c.tc : Thread Cert.ReferenceIdeal.nD Cert.ReferenceIdeal.τ).loc Cert.ReferenceIdeal.main_arg7))
      (m ((c.tc : Thread Cert.KernelIdeal.nD Cert.KernelIdeal.τ).loc Cert.KernelIdeal.main_arg7))
  ∧ @Eq (FVec Ideal Cert.KernelIdeal.S4 .f32)
      (m' ((c.tc : Thread Cert.ReferenceIdeal.nD Cert.ReferenceIdeal.τ).loc Cert.ReferenceIdeal.main_arg8))
      (m ((c.tc : Thread Cert.KernelIdeal.nD Cert.KernelIdeal.τ).loc Cert.KernelIdeal.main_arg8))
  ∧ @Eq (FVec Ideal Cert.KernelIdeal.S4 .f32)
      (m' ((c.tc : Thread Cert.ReferenceIdeal.nD Cert.ReferenceIdeal.τ).loc Cert.ReferenceIdeal.main_arg9))
      (m ((c.tc : Thread Cert.KernelIdeal.nD Cert.KernelIdeal.τ).loc Cert.KernelIdeal.main_arg9))
  ∧ @Eq (FVec Ideal Cert.KernelIdeal.S4 .f32)
      (m' ((c.tc : Thread Cert.ReferenceIdeal.nD Cert.ReferenceIdeal.τ).loc Cert.ReferenceIdeal.main_arg10))
      (m ((c.tc : Thread Cert.KernelIdeal.nD Cert.KernelIdeal.τ).loc Cert.KernelIdeal.main_arg10))
  ∧ @Eq (FVec Ideal Cert.KernelIdeal.S4 .f32)
      (m' ((c.tc : Thread Cert.ReferenceIdeal.nD Cert.ReferenceIdeal.τ).loc Cert.ReferenceIdeal.main_arg11))
      (m ((c.tc : Thread Cert.KernelIdeal.nD Cert.KernelIdeal.τ).loc Cert.KernelIdeal.main_arg11))
  ∧ @Eq (FVec Ideal Cert.KernelIdeal.S4 .f32)
      (m' ((c.tc : Thread Cert.ReferenceIdeal.nD Cert.ReferenceIdeal.τ).loc Cert.ReferenceIdeal.main_arg12))
      (m ((c.tc : Thread Cert.KernelIdeal.nD Cert.KernelIdeal.τ).loc Cert.KernelIdeal.main_arg12))
  ∧ @Eq (FVec Ideal Cert.KernelIdeal.S1024x256 .f32)
      (m' ((c.tc : Thread Cert.ReferenceIdeal.nD Cert.ReferenceIdeal.τ).loc Cert.ReferenceIdeal.main_arg13))
      (m ((c.tc : Thread Cert.KernelIdeal.nD Cert.KernelIdeal.τ).loc Cert.KernelIdeal.main_arg13))

/-- What the reference's buffers hold at launch are then those arguments. -/
theorem Same.agree {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    {c : Dev Cert.KernelIdeal.nD} (h : Same m m' c) : Agree m c (launchContents m' c) := by
  obtain ⟨h0, h1, h2, h3, h4, h5, h6, h7, h8, h9, h10, h11, h12, h13⟩ := h
  exact ⟨h0, h1, h2, h3, h4, h5, h6, h7, h8, h9, h10, h11, h12, h13⟩

end Cert.Maths

end
-- ==== Proof.KerRun.lean ====
/- The kernel's run with its results read: each buffer outside the kernels' own memory ends at the last boundary's contents. -/
module

public import proofs.«01_k».proof.Proof.Gen.KernelIdeal.Frame

@[expose] public section

set_option Elab.async false
set_option maxRecDepth 16384

noncomputable section

namespace Cert.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: every weakly fair execution ends, and each buffer of the program then holds what the last boundary says. -/
theorem run : θ_run defs (onTc (τ := τ) (main (F := F))) ⟨m, fun _ => 0, ρ⟩ (fun r =>
      ∀ c : Dev nD, ∀ b ∈ Pipeline.ucRefs τ sig, r.2.mem (((c : Thread nD τ)).1, b) = W11 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ => fun c b hb => h c b hb)

/-- The run, read at the arguments and the three results. -/
theorem run_results : θ_run defs (onTc (τ := τ) (main (F := F))) ⟨m, fun _ => 0, ρ⟩ (fun r => ∀ c : Dev nD,
      (∀ b : Ref sig .tc, b ∈ [main_arg0, main_arg1, main_arg2, main_arg3, main_arg4, main_arg5, main_arg6, main_arg7,
          main_arg8, main_arg9, main_arg10, main_arg11, main_arg12, main_arg13, main_v241_0, main_v243, main_v249] →
        r.2.mem ((c.tc : Thread nD τ).loc b) = W11 m ρ c (Proc.devRef .tc b))) :=
  (θ_run defs _ _).mono (fun _ h c b hb => h c _ (mem_uc b (by revert b; decide))) (run m ρ)

end Cert.Ker

end
-- ==== Proof.lean ====
/- The proof of the claim: the three programs' frames, the idealization, and the kernel's results against the
   reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Agree
public import proofs.«01_k».proof.Proof.Inputs
public import proofs.«01_k».proof.Proof.KerRun
public import proofs.«01_k».proof.Proof.RefRun
public import Idealize.ShloMosaic.Adequacy
public import Idealize.ShloMosaic.Init

@[expose] public section

set_option Elab.async false
set_option maxRecDepth 16384

noncomputable section

namespace Cert.Proof

open Idealize.ShloMosaic Idealize.SL.Sem

/-- The reference runs, leaves its arguments and every counter as they were. -/
theorem reference_frame : quiescent_ReferenceIdeal := fun m g _ =>
  (θ_run _ _ _).mono (fun r h => ⟨fun c => by
    refine ⟨?_, ?_, ?_, ?_, ?_, ?_, ?_, ?_, ?_, ?_, ?_, ?_, ?_, ?_⟩ <;>
      exact (h.1 c _).trans (Cert.Ref.run_arg m c (by decide)), h.2⟩) (Cert.Ref.run m g)

/-- The precondition as the proof reads it. -/
theorem regular_at (m : (ℓ : Loc Cert.KernelIdeal.nD Cert.KernelIdeal.τ Cert.KernelIdeal.sig) → Buf (Elt Ideal) ℓ)
    (h : Pre_KernelIdeal_regular m) (c : Dev Cert.KernelIdeal.nD) : Cert.Maths.RegularAt m c :=
  Cert.Maths.regular_of _ _ _ _ _ _ _ _ _ _ _ _ _ _ (fun a => a.elim0) (congrFun (h c) _)

set_option maxHeartbeats 4000000 in
/-- The kernel's three results are the reference's. -/
theorem results_agree : algebraic_KernelIdeal_ReferenceIdeal_pre_regular :=
    fun m g m' g' hp (ha : ∀ c, Cert.Maths.Same m m' c) => by
  refine ⟨fun c => Cert.KernelIdeal.Gen.W11 m g c (Proc.devRef .tc Cert.KernelIdeal.main_v241_0),
    fun c => Cert.KernelIdeal.Gen.W11 m g c (Proc.devRef .tc Cert.KernelIdeal.main_v243),
    fun c => Cert.KernelIdeal.Gen.W11 m g c (Proc.devRef .tc Cert.KernelIdeal.main_v249), ?_, ?_⟩
  · refine (θ_run _ _ _).mono (fun r h c => ?_) (Cert.Ker.run_results m g)
    refine ⟨h c _ (by decide), h c _ (by decide), h c _ (by decide), ?_, ?_, ?_, ?_, ?_, ?_, ?_, ?_, ?_, ?_, ?_, ?_, ?_, ?_⟩ <;>
      exact (h c _ (by decide)).trans (Cert.KernelIdeal.Gen.W11_args m g c _ (by decide))
  · refine (θ_run _ _ _).mono (fun r h c => ?_) (Cert.Ref.run m' g')
    refine ⟨?_, ?_, ?_, ?_, ?_, ?_, ?_, ?_, ?_, ?_, ?_, ?_, ?_, ?_, ?_, ?_, ?_⟩
    · exact (h.1 c Cert.ReferenceIdeal.main_v212).trans ((ha c).agree.latent (regular_at m hp c) g).symm
    · exact (h.1 c Cert.ReferenceIdeal.main_v213).trans ((ha c).agree.numbers g).symm
    · exact (h.1 c Cert.ReferenceIdeal.main_v214).trans ((ha c).agree.loss (regular_at m hp c) g).symm
    all_goals exact (h.1 c _).trans (Cert.Ref.run_arg m' c (by decide))

theorem claim : Cert.Claim :=
  ⟨Cert.Kernel.Gen.facts, Cert.KernelIdeal.Gen.facts, Cert.ReferenceIdeal.Gen.facts, Cert.Maths.regularFacts,
    fun m g _ => Cert.Kernel.Gen.frame m g, fun m g _ => Cert.KernelIdeal.Gen.frame m g,
    fun m g _ => Cert.KernelIdeal.Gen.frame m g, reference_frame, fun m g _ => reference_frame m g trivial, trivial,
    results_agree⟩

end Cert.Proof

end
